-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![2, 2048, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩
abbrev S16 : Shape := ⟨1, ![16]⟩
abbrev S_ : Shape := ⟨0, ![]⟩
abbrev S1 : Shape := ⟨1, ![1]⟩
abbrev S64x2048 : Shape := ⟨2, ![64, 2048]⟩
abbrev S64 : Shape := ⟨1, ![64]⟩
abbrev S64x1 : Shape := ⟨2, ![64, 1]⟩

abbrev nBuf : Space → Nat
  | .hbm => 6
  | .vmem => 4
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S2048x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v15 : BitVec 32 := Scalar.muli v2 c8_i32_7
  let v16 : BitVec 32 := Scalar.addi c0_i32 v15
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v17 : BitVec 32 := Scalar.muli v9 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_11 : BitVec 32 := 8#32
  let v21 : BitVec 32 := Scalar.muli v10 c8_i32_11
  let v22 : BitVec 32 := Scalar.addi c0_i32_12 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
@[reducible] def k0_t1_loop : Scf.Loop 32 :=
  let c0_i32_16 : BitVec 32 := 0#32
  let c16_i32 : BitVec 32 := 16#32
  let v27 : BitVec 32 := Scalar.addi c0_i32_16 c16_i32
  let c1_i32_17 : BitVec 32 := 1#32
  ⟨c0_i32_16, v27, c1_i32_17⟩
def k0_off1 (k0_t1 : Fin k0_t1_loop.trips) : Fin 1 → Nat :=
  let c0_i32_16 : BitVec 32 := 0#32
  let c1_i32_17 : BitVec 32 := 1#32
  let arg8 : BitVec 32 := Scf.iv c0_i32_16 c1_i32_17 k0_t1
  ![arg8.toNat]
def k0_off2 (d0 : Dev nD) (k0_t1 : Fin k0_t1_loop.trips) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let c0_i32_16 : BitVec 32 := 0#32
  let c1_i32_17 : BitVec 32 := 1#32
  let arg8 : BitVec 32 := Scf.iv c0_i32_16 c1_i32_17 k0_t1
  let c64_i32 : BitVec 32 := 64#32
  let v29 : BitVec 32 := Scalar.muli arg8 c64_i32
  let v30 : BitVec 32 := Scalar.addi v11 v29
  let c0_i32_26 : BitVec 32 := 0#32
  ![v30.toNat, 0]
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v31 : BitVec 32 := Scalar.muli v2 c8_i32_22
  let v32 : BitVec 32 := Scalar.addi c0_i32_23 v31
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v33 : BitVec 32 := Scalar.muli v9 c4_i32_24
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v35 : BitVec 32 := Scalar.muli v8 c1_i32_25
  let v36 : BitVec 32 := Scalar.addi v34 v35
  v36.toNat
@[reducible] def k0_t2_loop : Scf.Loop 32 :=
  let c0_i32_19 : BitVec 32 := 0#32
  let c19_i32 : BitVec 32 := 19#32
  let v28 : BitVec 32 := Scalar.addi c0_i32_19 c19_i32
  let c1_i32_20 : BitVec 32 := 1#32
  ⟨c0_i32_19, v28, c1_i32_20⟩
def k0_cond1 (k0_t2 : Fin k0_t2_loop.trips) : BitVec 1 :=
  let c0_i32_19 : BitVec 32 := 0#32
  let c1_i32_20 : BitVec 32 := 1#32
  let arg8 : BitVec 32 := Scf.iv c0_i32_19 c1_i32_20 k0_t2
  let c16_i32_22 : BitVec 32 := 16#32
  let v29 : BitVec 1 := Scalar.cmpi .slt arg8 c16_i32_22
  let v30 : BitVec 32 := Scalar.extui v29
  let c0_i32_23 : BitVec 32 := 0#32
  let v31 : BitVec 1 := Scalar.cmpi .ne v30 c0_i32_23
  v31

def k0_off3 (k0_t2 : Fin k0_t2_loop.trips) : Fin 1 → Nat :=
  let c0_i32_19 : BitVec 32 := 0#32
  let c1_i32_20 : BitVec 32 := 1#32
  let arg8 : BitVec 32 := Scf.iv c0_i32_19 c1_i32_20 k0_t2
  ![arg8.toNat]
def k0_off4 (d0 : Dev nD) (k0_t2 : Fin k0_t2_loop.trips) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let c0_i32_19 : BitVec 32 := 0#32
  let c1_i32_20 : BitVec 32 := 1#32
  let arg8 : BitVec 32 := Scf.iv c0_i32_19 c1_i32_20 k0_t2
  let c64_i32 : BitVec 32 := 64#32
  let v35 : BitVec 32 := Scalar.muli arg8 c64_i32
  let v36 : BitVec 32 := Scalar.addi v11 v35
  let c0_i32_26 : BitVec 32 := 0#32
  ![v36.toNat, 0]
def k0_off5 (d0 : Dev nD) (k0_t2 : Fin k0_t2_loop.trips) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let c0_i32_19 : BitVec 32 := 0#32
  let c1_i32_20 : BitVec 32 := 1#32
  let arg8 : BitVec 32 := Scf.iv c0_i32_19 c1_i32_20 k0_t2
  let c64_i32_34 : BitVec 32 := 64#32
  let v51 : BitVec 32 := Scalar.muli arg8 c64_i32_34
  let v52 : BitVec 32 := Scalar.addi v11 v51
  let v53 : Index := Scalar.indexCast v52
  let c0 : Index := 0#32
  ![v53.toNat, 0]
def k0_dev4 (d0 : Dev nD) : Nat :=
  let c0_i32_39 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_38 : BitVec 32 := 8#32
  let v64 : BitVec 32 := Scalar.muli v10 c8_i32_38
  let v65 : BitVec 32 := Scalar.addi c0_i32_39 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v66 : BitVec 32 := Scalar.muli v5 c4_i32_40
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v68 : BitVec 32 := Scalar.muli v8 c1_i32_41
  let v69 : BitVec 32 := Scalar.addi v67 v68
  v69.toNat
def k0_cond2 (k0_t2 : Fin k0_t2_loop.trips) : BitVec 1 :=
  let c0_i32_19 : BitVec 32 := 0#32
  let c1_i32_20 : BitVec 32 := 1#32
  let arg8 : BitVec 32 := Scf.iv c0_i32_19 c1_i32_20 k0_t2
  let c3_i32 : BitVec 32 := 3#32
  let v32 : BitVec 1 := Scalar.cmpi .sge arg8 c3_i32
  let v33 : BitVec 32 := Scalar.extui v32
  let c0_i32_24 : BitVec 32 := 0#32
  let v34 : BitVec 1 := Scalar.cmpi .ne v33 c0_i32_24
  v34

def k0_off6 (k0_t2 : Fin k0_t2_loop.trips) : Fin 1 → Nat :=
  let c0_i32_19 : BitVec 32 := 0#32
  let c1_i32_20 : BitVec 32 := 1#32
  let arg8 : BitVec 32 := Scf.iv c0_i32_19 c1_i32_20 k0_t2
  let c3_i32_25 : BitVec 32 := 3#32
  let v35 : BitVec 32 := Scalar.subi arg8 c3_i32_25
  ![v35.toNat]
def k0_off7 (d0 : Dev nD) (k0_t2 : Fin k0_t2_loop.trips) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let c0_i32_19 : BitVec 32 := 0#32
  let c1_i32_20 : BitVec 32 := 1#32
  let arg8 : BitVec 32 := Scf.iv c0_i32_19 c1_i32_20 k0_t2
  let c3_i32_25 : BitVec 32 := 3#32
  let v35 : BitVec 32 := Scalar.subi arg8 c3_i32_25
  let c64_i32 : BitVec 32 := 64#32
  let v36 : BitVec 32 := Scalar.muli v35 c64_i32
  let v37 : BitVec 32 := Scalar.addi v11 v36
  let c0_i32_27 : BitVec 32 := 0#32
  ![v37.toNat, 0]
def k0_off8 (d0 : Dev nD) (k0_t2 : Fin k0_t2_loop.trips) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v11 : BitVec 32 := Scalar.muli v2 c1024_i32
  let c0_i32_19 : BitVec 32 := 0#32
  let c1_i32_20 : BitVec 32 := 1#32
  let arg8 : BitVec 32 := Scf.iv c0_i32_19 c1_i32_20 k0_t2
  let c3_i32_25 : BitVec 32 := 3#32
  let v35 : BitVec 32 := Scalar.subi arg8 c3_i32_25
  let c64_i32_29 : BitVec 32 := 64#32
  let v42 : BitVec 32 := Scalar.muli v35 c64_i32_29
  let v43 : BitVec 32 := Scalar.addi v11 v42
  let v44 : Index := Scalar.indexCast v43
  let c0 : Index := 0#32
  ![v44.toNat, 0]
def k0_off9 (d0 : Dev nD) (k0_t2 : Fin k0_t2_loop.trips) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c1024_i32_5 : BitVec 32 := 1024#32
  let v13 : BitVec 32 := Scalar.muli v12 c1024_i32_5
  let c0_i32_19 : BitVec 32 := 0#32
  let c1_i32_20 : BitVec 32 := 1#32
  let arg8 : BitVec 32 := Scf.iv c0_i32_19 c1_i32_20 k0_t2
  let c3_i32_25 : BitVec 32 := 3#32
  let v35 : BitVec 32 := Scalar.subi arg8 c3_i32_25
  let c64_i32_36 : BitVec 32 := 64#32
  let v67 : BitVec 32 := Scalar.muli v35 c64_i32_36
  let v68 : BitVec 32 := Scalar.addi v13 v67
  let c0_i32_41 : BitVec 32 := 0#32
  ![v68.toNat, 0]
def k0_off10 (d0 : Dev nD) (k0_t2 : Fin k0_t2_loop.trips) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c1024_i32_5 : BitVec 32 := 1024#32
  let v13 : BitVec 32 := Scalar.muli v12 c1024_i32_5
  let c0_i32_19 : BitVec 32 := 0#32
  let c1_i32_20 : BitVec 32 := 1#32
  let arg8 : BitVec 32 := Scf.iv c0_i32_19 c1_i32_20 k0_t2
  let c3_i32_25 : BitVec 32 := 3#32
  let v35 : BitVec 32 := Scalar.subi arg8 c3_i32_25
  let c64_i32_43 : BitVec 32 := 64#32
  let v79 : BitVec 32 := Scalar.muli v35 c64_i32_43
  let v80 : BitVec 32 := Scalar.addi v13 v79
  let v81 : Index := Scalar.indexCast v80
  let c0_44 : Index := 0#32
  ![v81.toNat, 0]
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Cells.lean ====
/-
# The layout: devices, chunks of rows, semaphores

The mesh is 2 × 2 × 4. Device `c` has the coordinates `(c / 8, c / 4 % 2, c % 4)`. The kernel cuts the 2048 rows of
every buffer into 32 chunks of 64 rows. The device's OWN half is the sixteen chunks from row `1024 · (c / 8)`, its OTHER half
the remaining sixteen. This file names the two neighbours, the chunks and the 64 semaphores of the transfers,
and reads and writes one chunk of a buffer.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resources: the pipeline's and the rounds of the kernel's own cells (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Neighbours -/

/-- The device across the `y` axis. -/
def yn (c : Dev nD) : Dev nD := ⟨8 * (c.val / 8) + 4 * (1 - c.val / 4 % 2) + c.val % 4, by have : c.val < 16 := c.isLt; show _ < 16; omega⟩
/-- The device across the `x` axis. -/
def xn (c : Dev nD) : Dev nD := ⟨8 * (1 - c.val / 8) + c.val % 8, by have : c.val < 16 := c.isLt; show _ < 16; omega⟩

theorem yn_yn (c : Dev nD) : yn (yn c) = c := by revert c; decide
theorem xn_xn (c : Dev nD) : xn (xn c) = c := by revert c; decide
theorem xn_ne_yn (c : Dev nD) : xn c ≠ yn c := by revert c; decide

theorem dev1_yn (c : Dev nD) : (⟨k0_dev1 c, k0_dev1_lt c⟩ : Dev nD) = yn c :=
  Fin.ext ((k0_dev1_eq c).trans (by revert c; decide))
theorem dev2_xn (c : Dev nD) : (⟨k0_dev2 c, k0_dev2_lt c⟩ : Dev nD) = xn c :=
  Fin.ext ((k0_dev2_eq c).trans (by revert c; decide))
theorem dev3_yn (c : Dev nD) : (⟨k0_dev3 c, k0_dev3_lt c⟩ : Dev nD) = yn c :=
  Fin.ext ((k0_dev3_eq c).trans (by revert c; decide))
theorem dev4_xn (c : Dev nD) (t : Fin k0_t2_loop.trips) (h : k0_cond1 t = 1#1) : (⟨k0_dev4 c, k0_dev4_lt c t h⟩ : Dev nD) = xn c :=
  Fin.ext ((k0_dev4_eq c).trans (by revert c; decide))

def ynE : Dev nD ≃ Dev nD := ⟨yn, yn, yn_yn, yn_yn⟩
def xnE : Dev nD ≃ Dev nD := ⟨xn, xn, xn_xn, xn_xn⟩

/-! ## Chunks -/

theorem chk_inb (b : Fin 32) : ∀ a, (![64 * b.val, 0] : Fin 2 → ℕ) a + S64x2048.size a ≤ S2048x2048.size a := by
  revert b; decide

/-- The rectangle of chunk `b`: rows `64 b` to `64 b + 63`. -/
abbrev chk (b : Fin 32) : Rect S2048x2048 := Rect.unit (s := S2048x2048) ![64 * b.val, 0] S64x2048.size (chk_inb b)

/-- Chunk `k` of the device's own half, of its other half. -/
def own (c : Dev nD) (k : Fin 16) : Fin 32 := ⟨16 * (c.val / 8) + k.val, by have : c.val < 16 := c.isLt; have := k.isLt; omega⟩
def oth (c : Dev nD) (k : Fin 16) : Fin 32 := ⟨16 * (1 - c.val / 8) + k.val, by have : c.val < 16 := c.isLt; have := k.isLt; omega⟩

theorem own_yn (c : Dev nD) (k : Fin 16) : own (yn c) k = own c k := by revert c k; decide
theorem oth_yn (c : Dev nD) (k : Fin 16) : oth (yn c) k = oth c k := by revert c k; decide
theorem own_xn (c : Dev nD) (k : Fin 16) : own (xn c) k = oth c k := by revert c k; decide
theorem oth_xn (c : Dev nD) (k : Fin 16) : oth (xn c) k = own c k := by revert c k; decide

/-- The 32 chunks are the own sixteen and the other sixteen. -/
def halves (c : Dev nD) : Fin 16 ⊕ Fin 16 → Fin 32 := Sum.elim (own c) (oth c)
theorem halves_bij (c : Dev nD) : Function.Bijective (halves c) := by
  constructor
  · revert c; decide +kernel
  · revert c; decide +kernel

/-- A whole buffer's elements by chunk. -/
def chunkOf {α : Type} (b : Fin 32) (f : S2048x2048.Idx → α) : S64x2048.Idx → α := fun x => f ((chk b).emb x)

/-- The index of a buffer's element within its chunk, and the chunk. -/
def chunkNo (i : S2048x2048.Idx) : Fin 32 := ⟨(i 0).val / 64, by have h : (i 0).val < 2048 := (i 0).isLt; omega⟩
def chunkIx (i : S2048x2048.Idx) : S64x2048.Idx :=
  fun a => match a with
    | ⟨0, _⟩ => ⟨(i 0).val % 64, Nat.mod_lt _ (by decide)⟩
    | ⟨1, _⟩ => i 1

/-- The buffer whose chunk `b` is `g b`. -/
def chunked {α : Type} (g : Fin 32 → S64x2048.Idx → α) : S2048x2048.Idx → α := fun i => g (chunkNo i) (chunkIx i)

theorem emb0 (b : Fin 32) (x : S64x2048.Idx) : (((chk b).emb x) 0).val = 64 * b.val + (x 0).val := by
  rw [Rect.emb_apply]; show 64 * b.val + 1 * (x 0).val = _; omega
theorem emb1 (b : Fin 32) (x : S64x2048.Idx) : (((chk b).emb x) 1).val = (x 1).val := by
  rw [Rect.emb_apply]; show 0 + 1 * (x 1).val = _; omega

theorem chunkNo_emb (b : Fin 32) (x : S64x2048.Idx) : chunkNo ((chk b).emb x) = b := by
  have h : (x 0).val < 64 := (x 0).isLt
  refine Fin.ext ?_
  show (((chk b).emb x) 0).val / 64 = b.val
  rw [emb0]; omega
theorem chunkIx_emb (b : Fin 32) (x : S64x2048.Idx) : chunkIx ((chk b).emb x) = x := by
  have h : (x 0).val < 64 := (x 0).isLt
  funext a
  match a with
  | ⟨0, _⟩ => refine Fin.ext ?_; show (((chk b).emb x) 0).val % 64 = (x 0).val; rw [emb0]; omega
  | ⟨1, _⟩ => exact Fin.ext (emb1 b x)
theorem emb_chunk (i : S2048x2048.Idx) : (chk (chunkNo i)).emb (chunkIx i) = i := by
  funext a
  match a with
  | ⟨0, _⟩ =>
    refine Fin.ext ((emb0 _ _).trans ?_)
    show 64 * ((i 0).val / 64) + (i 0).val % 64 = (i 0).val; omega
  | ⟨1, _⟩ => exact Fin.ext (emb1 _ _)

theorem chunkOf_chunked {α : Type} (g : Fin 32 → S64x2048.Idx → α) (b : Fin 32) : chunkOf b (chunked g) = g b := by
  funext x; show g (chunkNo ((chk b).emb x)) (chunkIx ((chk b).emb x)) = g b x
  rw [chunkNo_emb, chunkIx_emb]
theorem chunkOf_apply {α : Type} (f : S2048x2048.Idx → α) (i : S2048x2048.Idx) : chunkOf (chunkNo i) f (chunkIx i) = f i := by
  show f _ = f i; rw [emb_chunk]

theorem mem_chk (b : Fin 32) (i : S2048x2048.Idx) : i ∈ (chk b).set ↔ chunkNo i = b := by
  rw [← Rect.map_emb_univ, Finset.mem_map]
  constructor
  · rintro ⟨x, -, rfl⟩; exact chunkNo_emb b x
  · rintro rfl; exact ⟨chunkIx i, Finset.mem_univ _, emb_chunk i⟩

theorem chk_disjoint {a b : Fin 32} (h : a ≠ b) : Disjoint (chk a).set (chk b).set :=
  Finset.disjoint_left.mpr fun i ha hb => h (((mem_chk a i).mp ha).symm.trans ((mem_chk b i).mp hb))
theorem chk_cover : (Finset.univ : Finset (Fin 32)).biUnion (fun b => (chk b).set) = Finset.univ :=
  Finset.eq_univ_iff_forall.mpr fun i => Finset.mem_biUnion.mpr ⟨chunkNo i, Finset.mem_univ _, (mem_chk _ i).mpr rfl⟩

/-! ## The buffers the kernel holds -/

abbrev pM : Memref sig .tc .vmem S2048x2048 .f32 := Memref.whole cc0_stg0_0
abbrev rM : Memref sig .tc .vmem S2048x2048 .f32 := Memref.whole cc0_stg1_0
abbrev gM : Memref sig .tc .vmem S1x2048 .f32 := Memref.whole cc0_stg2_0
abbrev oM : Memref sig .tc .vmem S2048x2048 .f32 := Memref.whole cc0_stg3_0

/-- A whole buffer of device `c`. -/
abbrev pLoc (c : Dev nD) : Loc nD τ sig := (c : Thread nD τ).loc cc0_stg0_0
abbrev rLoc (c : Dev nD) : Loc nD τ sig := (c : Thread nD τ).loc cc0_stg1_0
abbrev gLoc (c : Dev nD) : Loc nD τ sig := (c : Thread nD τ).loc cc0_stg2_0
abbrev oLoc (c : Dev nD) : Loc nD τ sig := (c : Thread nD τ).loc cc0_stg3_0

/-- Contents of a big buffer. -/
abbrev Big (F : FTy → Type) : Type := S2048x2048.Idx → F .f32
abbrev Sm (F : FTy → Type) : Type := S64x2048.Idx → F .f32

/-- Chunk `b` of the first operand's buffer, of the second's, of the result's, at the contents `f` of the whole buffer. -/
def pPt (c : Dev nD) (b : Fin 32) (f : Big F) : sProp 𝕄 := pLoc c ↦[(chk b).set]{fullShare} f
def oPt (c : Dev nD) (b : Fin 32) (f : Big F) : sProp 𝕄 := oLoc c ↦[(chk b).set]{fullShare} f

instance pPt_storable (c : Dev nD) (b : Fin 32) (f : Big F) : BI.Storable (upEmb : UEmb _ 𝕄) (pPt c b f) := by unfold pPt; infer_instance
instance oPt_storable (c : Dev nD) (b : Fin 32) (f : Big F) : BI.Storable (upEmb : UEmb _ 𝕄) (oPt c b f) := by unfold oPt; infer_instance

theorem mem_chk_eq {f g : Big F} {b : Fin 32} (h : chunkOf b f = chunkOf b g) : ∀ i ∈ (chk b).set, f i = g i := fun i hi => by
  have hb := (mem_chk b i).mp hi
  have := congrFun h (chunkIx i)
  rw [← hb, chunkOf_apply, chunkOf_apply] at this
  exact this

/-- What a chunk holds depends on the chunk's elements only. -/
theorem oPt_congr (c : Dev nD) (b : Fin 32) {f g : Big F} (h : chunkOf b f = chunkOf b g) : (oPt c b f : sProp 𝕄) = oPt c b g :=
  pointsTo_congr (mem_chk_eq h)
theorem pPt_congr (c : Dev nD) (b : Fin 32) {f g : Big F} (h : chunkOf b f = chunkOf b g) : (pPt c b f : sProp 𝕄) = pPt c b g :=
  pointsTo_congr (mem_chk_eq h)

/-! ## Reading and writing one chunk -/

theorem read_p (b : Fin 32) (f : Big F) : ((pM.access (chk b)).read (Elt F) f : Sm F) = chunkOf b f := rfl
theorem read_r (b : Fin 32) (f : Big F) : ((rM.access (chk b)).read (Elt F) f : Sm F) = chunkOf b f := rfl
theorem read_o (b : Fin 32) (f : Big F) : ((oM.access (chk b)).read (Elt F) f : Sm F) = chunkOf b f := rfl
/-- A chunk just written holds what was written. -/
theorem chunkOf_write (b : Fin 32) (f : Big F) (w : Sm F) :
    chunkOf b ((oM.access (chk b)).write (Elt F) f w Finset.univ : Big F) = w := by
  rw [← read_o]
  exact View.read_write_univ (Val := Elt F) (v := oM.access (chk b)) f w
theorem set_p (b : Fin 32) : (pM.access (chk b)).set = (chk b).set := View.set_slice_whole _ _
theorem set_o (b : Fin 32) : (oM.access (chk b)).set = (chk b).set := View.set_slice_whole _ _

/-! ## Semaphores -/

/-- The semaphore of each transfer: kind 0 the sends across `y`, 1 the receives across `y`, 2 and 3 the same across `x`. -/
def tsem (i : Fin 4 × Fin 16) : DmaSem sig := ⟨4 + 16 * i.1.val + i.2.val, by
  have := i.1.isLt; have := i.2.isLt; show _ < 68; omega⟩

/-- Entry `k` of a semaphore array, as the kernel selects it. -/
def at16 (k : Fin 16) : S16.Idx := fun a => match a with | ⟨0, _⟩ => k

abbrev pick (a : DmaSems sig S16) (off : Fin 1 → ℕ) (inb : ∀ i, off i + S1.size i ≤ S16.size i) : DmaSem sig :=
  ((a.slice (Rect.unit (s := S16) off S1.size inb)).squeeze S_ squeezes_S1_S_).sem

theorem pick_eq (a : DmaSems sig S16) (k : Fin 16) {off : Fin 1 → ℕ} (inb) (h : off = ![k.val]) :
    pick a off inb = a.ix (at16 k) := by
  subst h
  refine congrArg a.ix (funext fun i => Fin.ext ?_)
  match i with
  | ⟨0, _⟩ =>
    have : ∀ z : Fin 1, k.val + 1 * z.val = k.val := fun z => by omega
    exact this _

theorem ix0 (k : Fin 16) : (cc0_scratch0 : DmaSems sig S16).ix (at16 k) = tsem (0, k) := by revert k; decide +kernel
theorem ix1 (k : Fin 16) : (cc0_scratch1 : DmaSems sig S16).ix (at16 k) = tsem (1, k) := by revert k; decide +kernel
theorem ix2 (k : Fin 16) : (cc0_scratch2 : DmaSems sig S16).ix (at16 k) = tsem (2, k) := by revert k; decide +kernel
theorem ix3 (k : Fin 16) : (cc0_scratch3 : DmaSems sig S16).ix (at16 k) = tsem (3, k) := by revert k; decide +kernel

theorem tsem_inj : Function.Injective tsem := by
  rintro ⟨i, k⟩ ⟨j, l⟩ h
  have h' : 4 + 16 * i.val + k.val = 4 + 16 * j.val + l.val := congrArg Fin.val h
  have := k.isLt; have := l.isLt
  have h₁ : i = j := Fin.ext (by omega)
  have h₂ : k = l := Fin.ext (by omega)
  rw [h₁, h₂]

abbrev barS : Sem sig := (SemArray.scalar (sig.barrier 0 rfl) : Sems sig S_).sem

/-- The kernel's own scoped semaphores. -/
abbrev osem (i : Fin 4 × Fin 16) : SemLoc sig := .dma (tsem i)

abbrev barCell (c : Dev nD) : GSem nD τ sig := ((c : Thread nD τ), .reg barS)
/-- The cell of a transfer's semaphore on device `c`. -/
abbrev tCell (c : Dev nD) (i : Fin 4 × Fin 16) : GSem nD τ sig := ((c : Thread nD τ), osem i)

theorem tCell_inj {c c' : Dev nD} {i i' : Fin 4 × Fin 16} (h : tCell c i = tCell c' i') : c = c' ∧ i = i' :=
  ⟨congrArg (fun g : GSem nD τ sig => g.1.1) h, tsem_inj (SemLoc.dma.inj (congrArg Prod.snd h))⟩
theorem barCell_inj {c c' : Dev nD} (h : barCell c = barCell c') : c = c' := congrArg (fun g : GSem nD τ sig => g.1.1) h
theorem tCell_ne_bar (c c' : Dev nD) (i : Fin 4 × Fin 16) : tCell c i ≠ barCell c' := fun h => by
  have := congrArg Prod.snd h; cases this

/-- Which transfer's semaphore a DMA semaphore is. -/
def unsem (q : DmaSem sig) : Option (Fin 4 × Fin 16) :=
  if 4 ≤ q.val then some (⟨(q.val - 4) / 16, by have h : q.val < 68 := q.isLt; omega⟩, ⟨(q.val - 4) % 16, Nat.mod_lt _ (by decide)⟩) else none
theorem unsem_tsem (i : Fin 4 × Fin 16) : unsem (tsem i) = some i := by revert i; decide +kernel
theorem unsem_stage (q : DmaSem sig) (h : q.val < 4) : unsem q = none := if_neg (by omega)

/-- The credit of one chunk's transfer. -/
abbrev N : ℕ := (oM.access (chk 0)).dmaCredit
theorem N_pos : 0 < N := View.dmaCredit_pos _ (by decide)

/-! ## The kernel's offsets and conditions -/

theorem cond1_iff (t : Fin k0_t2_loop.trips) : k0_cond1 t = 1#1 ↔ t.val < 16 := by revert t; decide +kernel
theorem cond2_iff (t : Fin k0_t2_loop.trips) : k0_cond2 t = 1#1 ↔ 3 ≤ t.val := by revert t; decide +kernel

theorem t1_lt (t : Fin k0_t1_loop.trips) : t.val < 16 := by revert t; decide +kernel
theorem t2_lt (t : Fin k0_t2_loop.trips) : t.val < 19 := by revert t; decide +kernel
theorem t1_trips : k0_t1_loop.trips = 16 := by decide +kernel
theorem t2_trips : k0_t2_loop.trips = 19 := by decide +kernel

theorem off_own (c : Dev nD) (k : Fin 16) : (![1024 * (c.val / 8) + 64 * k.val, 0] : Fin 2 → ℕ) = ![64 * (own c k).val, 0] := by
  have h : 1024 * (c.val / 8) + 64 * k.val = 64 * (own c k).val := by
    show _ = 64 * (16 * (c.val / 8) + k.val); omega
  rw [h]

theorem off6_eq (t : Fin k0_t2_loop.trips) (k : Fin 16) (h : t.val = k.val + 3) : k0_off6 t = ![k.val] := by
  revert t k; decide +kernel
theorem off7_eq (c : Dev nD) (t : Fin k0_t2_loop.trips) (k : Fin 16) (h : t.val = k.val + 3) : k0_off7 c t = ![64 * (own c k).val, 0] := by
  revert c t k; decide +kernel
theorem off8_eq (c : Dev nD) (t : Fin k0_t2_loop.trips) (k : Fin 16) (h : t.val = k.val + 3) : k0_off8 c t = ![64 * (own c k).val, 0] := by
  revert c t k; decide +kernel
theorem off9_eq (c : Dev nD) (t : Fin k0_t2_loop.trips) (k : Fin 16) (h : t.val = k.val + 3) : k0_off9 c t = ![64 * (oth c k).val, 0] := by
  revert c t k; decide +kernel
theorem off10_eq (c : Dev nD) (t : Fin k0_t2_loop.trips) (k : Fin 16) (h : t.val = k.val + 3) : k0_off10 c t = ![64 * (oth c k).val, 0] := by
  revert c t k; decide +kernel

end Cert.Fused
-- ==== Proof.Sched.lean ====
/-
# The schedule of the kernel's cells

A device's barrier cell takes one unit from each neighbour. The neighbour across `y` hands over the half of its result
buffer the device will write, the neighbour across `x` the other half of its own. Each of the 64 transfer cells takes one
chunk's credit: a send's hands back the source chunk, a receive's the chunk that arrived.
-/
module

public import proofs.«01_k».proof.Proof.Cells

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Big F)

/-! ## Contents -/

/-- The sum across `y`, chunk by chunk, as the kernel forms it on device `c`: what arrived plus what was there. -/
def Ssum (c : Dev nD) : Big F := chunked fun b => k0_pay2 (chunkOf b (P (yn c))) (chunkOf b (P c))

/-- A sum `s` added to `r` and normalised, chunk by chunk. -/
def normed (s r : Big F) (g : S1x2048.Idx → F .f32) : Big F := chunked fun b => k0_pay3 (chunkOf b s) (chunkOf b r) g

/-! ## Payloads -/

/-- Chunk `b` of device `c`'s result buffer, at some contents. -/
def oAny (c : Dev nD) (b : Fin 32) : sProp 𝕄 := iprop(∃ f, oPt c b f)

def tPay (c : Dev nD) (i : Fin 4 × Fin 16) : sProp 𝕄 :=
  match i with
  | (0, k) => pPt c (own c k) (P c)
  | (1, k) => oPt c (own c k) (P (yn c))
  | (2, k) => oPt c (own c k) (Ssum P c)
  | (3, k) => oPt c (oth c k) (Ssum P (xn c))

/-- What a device gets at its barrier from one neighbour `n`, for the transfers of kind `i` into it: of every chunk the room, and
    that its receive cell is at its first round. -/
def room (n c : Dev nD) (i : Fin 4) : sProp 𝕄 :=
  bigSep Finset.univ fun k : Fin 16 => iprop(oAny (F := F) n (own c k) ∗ reached ER (tCell n (i, k)) 0)

def barPay (c : Dev nD) (d : Bool) : sProp 𝕄 := if d then room (F := F) (xn c) c 3 else room (F := F) (yn c) c 1

instance oAny_storable (c : Dev nD) (b : Fin 32) : BI.Storable (upEmb : UEmb _ 𝕄) (oAny (F := F) c b) := by unfold oAny; infer_instance
instance room_storable (n c : Dev nD) (i : Fin 4) : BI.Storable (upEmb : UEmb _ 𝕄) (room (F := F) n c i) := by unfold room; infer_instance
instance barPay_storable (c : Dev nD) (d : Bool) : BI.Storable (upEmb : UEmb _ 𝕄) (barPay (F := F) c d) := by
  unfold barPay; split <;> infer_instance
instance tPay_storable (c : Dev nD) (i : Fin 4 × Fin 16) : BI.Storable (upEmb : UEmb _ 𝕄) (tPay P c i) := by
  unfold tPay; split <;> infer_instance

/-! ## The schedule -/

def duties (g : GSem nD τ sig) : Finset Bool :=
  match g.2 with
  | .reg _ => Finset.univ
  | .dma q => if (unsem q).isSome then {false} else ∅

def amount (g : GSem nD τ sig) : ℕ :=
  match g.2 with
  | .reg _ => 1
  | .dma _ => N

def payload (g : GSem nD τ sig) (d : Bool) : sProp 𝕄 :=
  match g.2 with
  | .reg _ => barPay (F := F) g.1.1 d
  | .dma q => match unsem q with
    | some i => tPay P g.1.1 i
    | none => iprop(emp)

/-- One round each. -/
def sched : Rounds.Schedule (GSem nD τ sig) Bool 𝕄 where
  duties g r := if r = 0 ∧ g.1.2 = .tc then duties g else ∅
  unitless _ := False
  amount g _ _ := amount g
  payload g _ d := payload P g d
  amount_pos g _ _ _ := by
    unfold amount; split
    · exact Nat.one_pos
    · exact N_pos

instance sched_payload_storable (g : GSem nD τ sig) (r : ℕ) (d : Bool) :
    BI.Storable (upEmb : UEmb _ 𝕄) ((sched P).payload g r d) := by
  show BI.Storable upEmb (payload P g d)
  unfold payload
  split
  · infer_instance
  · split <;> infer_instance

section Tables
variable (c : Dev nD) (i : Fin 4 × Fin 16)

theorem duties_bar : (sched P).duties (barCell c) 0 = Finset.univ := by
  show (if (0 : ℕ) = 0 ∧ (barCell c).1.2 = .tc then duties (barCell c) else ∅) = _
  rw [if_pos ⟨rfl, rfl⟩]; rfl
theorem duties_t : (sched P).duties (tCell c i) 0 = {false} := by
  show (if (0 : ℕ) = 0 ∧ (tCell c i).1.2 = .tc then duties (tCell c i) else ∅) = _
  rw [if_pos ⟨rfl, rfl⟩]; unfold duties; dsimp only [osem]
  rw [unsem_tsem]; rfl
theorem duties_later (g : GSem nD τ sig) : ∀ r, 1 ≤ r → (sched P).duties g r = ∅ :=
  fun r hr => if_neg fun h => by omega
theorem amount_bar (d : Bool) : (sched P).amount (barCell c) 0 d = 1 := rfl
theorem amount_t (d : Bool) : (sched P).amount (tCell c i) 0 d = N := rfl
theorem expect_bar : (sched P).expect (barCell c) 0 = 2 := by
  unfold Schedule.expect Schedule.amountOf
  rw [duties_bar, Finset.sum_congr rfl fun d _ => amount_bar P c d, Finset.sum_const, Finset.card_univ, Fintype.card_bool, smul_eq_mul]
theorem expect_t : (sched P).expect (tCell c i) 0 = N := by
  unfold Schedule.expect Schedule.amountOf; rw [duties_t, Finset.sum_singleton, amount_t]
theorem payload_bar (d : Bool) : (sched P).payload (barCell c) 0 d = barPay c d := rfl
theorem payload_t (d : Bool) : (sched P).payload (tCell c i) 0 d = tPay P c i := by
  show payload P (tCell c i) d = _
  unfold payload; dsimp only [osem]; rw [unsem_tsem]

theorem rest_bar : bigSep ((sched P).duties (barCell c) 0 \ ∅) (fun d => (sched P).payload (barCell c) 0 d)
    = iprop(room (F := F) (yn c) c 1 ∗ room (F := F) (xn c) c 3) := by
  rw [Finset.sdiff_empty, duties_bar, bigSep_univ_eq_bigSepL [false, true] (by decide) (by decide), bigSepL_cons_cons, bigSepL_singleton]
  rfl
theorem rest_t : bigSep ((sched P).duties (tCell c i) 0 \ ∅) (fun d => (sched P).payload (tCell c i) 0 d) = tPay P c i := by
  rw [Finset.sdiff_empty, duties_t, bigSep_singleton, payload_t]

end Tables

/-! ## The chunks from one on -/

/-- The chunks from `n` on, below `n`, from `b` to below `a`. -/
def ge (n : ℕ) : Finset (Fin 16) := Finset.univ.filter fun k => n ≤ k.val
def lt (n : ℕ) : Finset (Fin 16) := Finset.univ.filter fun k => k.val < n
def mid (b a : ℕ) : Finset (Fin 16) := Finset.univ.filter fun k => b ≤ k.val ∧ k.val < a

theorem ge_zero : ge 0 = Finset.univ := by decide
theorem ge_end : ge 16 = ∅ := by decide
theorem lt_zero : lt 0 = ∅ := by decide
theorem lt_end : lt 16 = Finset.univ := by decide
theorem mid_self (n : ℕ) : mid n n = ∅ := Finset.filter_eq_empty_iff.mpr fun k _ => by omega
theorem not_mem_ge (k : Fin 16) : k ∉ ge (k.val + 1) := by simp [ge]
theorem not_mem_lt (k : Fin 16) : k ∉ lt k.val := by simp [lt]
theorem ge_peel (k : Fin 16) : ge k.val = insert k (ge (k.val + 1)) := by
  ext j; simp only [ge, Finset.mem_filter, Finset.mem_univ, true_and, Finset.mem_insert, Fin.ext_iff]; omega
theorem lt_push (k : Fin 16) : lt (k.val + 1) = insert k (lt k.val) := by
  ext j; simp only [lt, Finset.mem_filter, Finset.mem_univ, true_and, Finset.mem_insert, Fin.ext_iff]; omega
theorem not_mem_mid_top (b : ℕ) (k : Fin 16) : k ∉ mid b k.val := by simp [mid]
theorem mid_push (b : ℕ) (k : Fin 16) (h : b ≤ k.val) : mid b (k.val + 1) = insert k (mid b k.val) := by
  ext j; simp only [mid, Finset.mem_filter, Finset.mem_univ, true_and, Finset.mem_insert, Fin.ext_iff]; omega
theorem not_mem_mid_bot (a : ℕ) (k : Fin 16) : k ∉ mid (k.val + 1) a := by simp [mid]
theorem mid_peel (a : ℕ) (k : Fin 16) (h : k.val < a) : mid k.val a = insert k (mid (k.val + 1) a) := by
  ext j; simp only [mid, Finset.mem_filter, Finset.mem_univ, true_and, Finset.mem_insert, Fin.ext_iff]; omega

/-! ## What each device owes, and the levels -/

/-- Still to be sent across `y`, across `x`, from chunk `n` on. -/
def yO (c : Dev nD) (n : ℕ) : CellTallies nD τ sig Unit := ∑ k ∈ ge n, tallyAt (tCell (yn c) (1, k)) () N
def xO (c : Dev nD) (n : ℕ) : CellTallies nD τ sig Unit := ∑ k ∈ ge n, tallyAt (tCell (xn c) (3, k)) () N
def O₂ (c : Dev nD) (n : ℕ) : CellTallies nD τ sig Unit := xO c 0 + yO c n
def O₁ (c : Dev nD) : CellTallies nD τ sig Unit := O₂ c 0 + tallyAt (barCell (xn c)) () 1
/-- At launch: a unit to either neighbour's barrier (the neighbour's across `y` first) and every chunk's two transfers. -/
def O₀ (c : Dev nD) : CellTallies nD τ sig Unit := O₁ c + tallyAt (barCell (yn c)) () 1

theorem yO_peel (c : Dev nD) (k : Fin 16) : yO c k.val = yO c (k.val + 1) + tallyAt (tCell (yn c) (1, k)) () N := by
  unfold yO; rw [ge_peel k, Finset.sum_insert (not_mem_ge k), add_comm]
theorem xO_peel (c : Dev nD) (k : Fin 16) : xO c k.val = xO c (k.val + 1) + tallyAt (tCell (xn c) (3, k)) () N := by
  unfold xO; rw [ge_peel k, Finset.sum_insert (not_mem_ge k), add_comm]
theorem O₂_peel (c : Dev nD) (k : Fin 16) : O₂ c k.val = O₂ c (k.val + 1) + tallyAt (tCell (yn c) (1, k)) () N := by
  unfold O₂; rw [yO_peel, add_assoc]
theorem yO_end (c : Dev nD) : yO c 16 = 0 := by unfold yO; rw [ge_end, Finset.sum_empty]
theorem xO_end (c : Dev nD) : xO c 16 = 0 := by unfold xO; rw [ge_end, Finset.sum_empty]
theorem O₂_end (c : Dev nD) : O₂ c 16 = xO c 0 := by unfold O₂; rw [yO_end, add_zero]

def L (g : GSem nD τ sig) : Finset Unit := if g.1.2 = .tc then {()} else ∅
/-- The send cells and the pipeline's own at 0, the barriers at 1, the receives across `y` at 2, the receive across `x` of
    chunk `k` at `3 + k`: a device waiting for chunk `k` across `x` has only later chunks to send across. -/
def lv (g : GSem nD τ sig) (_ : Unit) : ℕ :=
  match g.2 with
  | .reg _ => 1
  | .dma q => match unsem q with
    | some (1, _) => 2
    | some (3, k) => 3 + k.val
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_ys (c : Dev nD) (k : Fin 16) (u : Unit) : lv (tCell c (0, k)) u = 0 := by
  unfold lv; dsimp only [osem]; rw [unsem_tsem]; rfl
theorem lv_yr (c : Dev nD) (k : Fin 16) (u : Unit) : lv (tCell c (1, k)) u = 2 := by
  unfold lv; dsimp only [osem]; rw [unsem_tsem]; rfl
theorem lv_xs (c : Dev nD) (k : Fin 16) (u : Unit) : lv (tCell c (2, k)) u = 0 := by
  unfold lv; dsimp only [osem]; rw [unsem_tsem]; rfl
theorem lv_xr (c : Dev nD) (k : Fin 16) (u : Unit) : lv (tCell c (3, k)) u = 3 + k.val := by
  unfold lv; dsimp only [osem]; rw [unsem_tsem]; rfl
theorem lv_stage (c : Dev nD) (q : DmaSem sig) (h : q.val < 4) (u : Unit) : lv ((c : Thread nD τ), .dma q) u = 0 := by
  unfold lv; dsimp only; rw [unsem_stage q h]

theorem tally_pos {g g' : GSem nD τ sig} {u : Unit} {n : ℕ} (h : 0 < tallyAt (Ix := Unit) g () n g' u) : g' = g := by
  rw [tallyAt_apply] at h
  by_contra hn
  rw [if_neg (fun h' => hn h'.1)] at h
  exact Nat.lt_irrefl 0 h

theorem sum_pos {s : Finset (Fin 16)} {f : Fin 16 → GSem nD τ sig} {n : ℕ} {g : GSem nD τ sig} {u : Unit}
    (h : 0 < (∑ k ∈ s, tallyAt (Ix := Unit) (f k) () n : CellTallies nD τ sig Unit) g u) : ∃ k ∈ s, g = f k := by
  rw [Finset.sum_apply, Finsupp.finset_sum_apply] at h
  obtain ⟨k, hk, h'⟩ := Finset.exists_ne_zero_of_sum_ne_zero (Nat.pos_iff_ne_zero.mp h)
  exact ⟨k, hk, tally_pos (Nat.pos_of_ne_zero h')⟩

theorem yO_pos {c : Dev nD} {n : ℕ} {g : GSem nD τ sig} {u : Unit} (h : 0 < yO c n g u) : ∃ k : Fin 16, g = tCell (yn c) (1, k) := by
  obtain ⟨k, -, e⟩ := sum_pos h; exact ⟨k, e⟩
theorem xO_pos {c : Dev nD} {n : ℕ} {g : GSem nD τ sig} {u : Unit} (h : 0 < xO c n g u) :
    ∃ k : Fin 16, n ≤ k.val ∧ g = tCell (xn c) (3, k) := by
  obtain ⟨k, hk, e⟩ := sum_pos h; exact ⟨k, (Finset.mem_filter.mp hk).2, e⟩

theorem add_pos' {O O' : CellTallies nD τ sig Unit} {g : GSem nD τ sig} {u : Unit} (h : 0 < (O + O') g u) : 0 < O g u ∨ 0 < O' g u := by
  rw [Pi.add_apply, Finsupp.add_apply] at h; omega

theorem O₂_pos {c : Dev nD} {n : ℕ} {g : GSem nD τ sig} {u : Unit} (h : 0 < O₂ c n g u) : g.1.2 = .tc ∧ 2 ≤ lv g u := by
  rcases add_pos' h with h | h
  · obtain ⟨k, -, rfl⟩ := xO_pos h; exact ⟨rfl, by rw [lv_xr]; omega⟩
  · obtain ⟨k, rfl⟩ := yO_pos h; exact ⟨rfl, by rw [lv_yr]⟩
theorem O₀_pos {c : Dev nD} {g : GSem nD τ sig} {u : Unit} (h : 0 < O₀ c g u) : g.1.2 = .tc ∧ 1 ≤ lv g u := by
  rcases add_pos' h with h | h
  · rcases add_pos' h with h | h
    · have := O₂_pos h; exact ⟨this.1, by omega⟩
    · rw [tally_pos h]; exact ⟨rfl, by rw [lv_bar]⟩
  · rw [tally_pos h]; exact ⟨rfl, by rw [lv_bar]⟩

/-- A device may wait on a cell whose level is below those of all it owes. -/
theorem mayWait_of (c : Dev nD) (sm : SemLoc sig) (O : CellTallies nD τ sig Unit) (n : ℕ)
    (hs : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem mayWait_bar (c : Dev nD) : (levAts L lv : sProp 𝕄) ⊢ MayWait (c : Thread nD τ) (.reg barS) () (O₂ c 0) :=
  mayWait_of c _ _ 1 (by rw [lv_bar]) fun g u h => by have := O₂_pos h; exact ⟨this.1, by omega⟩
theorem mayWait_x (c : Dev nD) (sm : SemLoc sig) (n : ℕ) (hs : lv ((c : Thread nD τ), sm) () < 3 + n) :
    (levAts L lv : sProp 𝕄) ⊢ MayWait (c : Thread nD τ) sm () (xO c n) :=
  mayWait_of c _ _ (2 + n) (by omega) fun g u h => by
    obtain ⟨k, hk, rfl⟩ := xO_pos h; exact ⟨rfl, by rw [lv_xr]; omega⟩
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_of c _ _ 0 (by rw [lv_stage c q hq]) fun g u h => by have := O₀_pos h; exact ⟨this.1, by omega⟩
  · rw [MayWait_zero]; iintro -; iempintro

end Cert.Fused
-- ==== Proof.Steps.lean ====
/-
# One operation at a time

The kernel's transfers, waits, loads and stores, each at a chunk and a cell of the schedule. An offset is a variable with an
equation, so a step applies to whatever offset the kernel computes.
-/
module

public import proofs.«01_k».proof.Proof.Sched

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Big F)

/-- The kernel's weakest precondition on device `c`. -/
abbrev WP (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- Device `c` owes `O`, whatever it has waited for. -/
def oweW (c : Dev nD) (O : CellTallies nD τ sig Unit) : sProp 𝕄 := iprop(∃ W, owes (c : Thread nD τ) O W)

/-- Every transfer cell's invariant. -/
def invT (κ : GSem nD τ sig → ℕ) : sProp 𝕄 :=
  bigSep Finset.univ fun p : Dev nD × (Fin 4 × Fin 16) => cellInv ER (sched P) (κ (tCell p.1 p.2)) (tCell p.1 p.2)

instance invT_persistent (κ : GSem nD τ sig → ℕ) : BI.Persistent (invT P κ) := by unfold invT; infer_instance

theorem invT_at (κ : GSem nD τ sig → ℕ) (c : Dev nD) (i : Fin 4 × Fin 16) :
    invT P κ ⊢ cellInv ER (sched P) (κ (tCell c i)) (tCell c i) :=
  BI.bigSep_elim (Φ := fun p : Dev nD × (Fin 4 × Fin 16) => cellInv ER (sched P) (κ (tCell p.1 p.2)) (tCell p.1 p.2))
    (Finset.mem_univ (c, i))

/-- A chunk of a buffer as the kernel slices it. -/
abbrev cut (m : Memref sig .tc .vmem S2048x2048 .f32) (off : Fin 2 → ℕ) (inb : ∀ a, off a + S64x2048.size a ≤ S2048x2048.size a) :
    Memref sig .tc .vmem S64x2048 .f32 := m.slice (Rect.unit (s := S2048x2048) off S64x2048.size inb) (fun _ => rfl)

section Ops

variable (κ : GSem nD τ sig → ℕ) {α : Type} {Q : α → sProp (MT nD τ sig Unit (Elt F) ℕ UU ℕ)}
  {k : PUnit → Prog (TpuEff nD τ sig (Elt F) Λ₀ .tc) α}

/-- A wait for a transfer's whole credit. -/
theorem wp_waitT (c : Dev nD) (i : Fin 4 × Fin 16) {s : DmaSem sig} (hs : s = tsem i)
    {src dst : Memref sig .tc .vmem S64x2048 .f32} {hsrc : src.view.WordExact} {hdst : dst.view.WordExact}
    (hN : dst.view.dmaCredit = N) (O : CellTallies nD τ sig Unit)
    (hM : (levAts L lv : sProp 𝕄) ⊢ MayWait (c : Thread nD τ) (osem i) () O) :
    iprop(invT P κ ∗ levAts L lv ∗ cred (tallyAt (tCell c i) () N) ∗ oweW c O ∗ atPos ER (tCell c i) 0 ∅ 0)
      ⊢ iprop(((oweW c O ∗ atPos ER (tCell c i) 1 ∅ 0 ∗ tPay P c i) -∗ WP c (k ⟨⟩) Q)
          -∗ WP c (.op (.waitDma2 s src dst hsrc hdst) k) Q) := by
  subst hs
  unfold oweW
  iintro ⟨#HI, #HL, HC, ⟨%W, HO⟩, Hat⟩
  iintro HK
  ihave #HIc := (invT_at P κ c i) $$ HI
  ihave HM := hM $$ HL
  rw [← hN]
  iapply (Rounds.wp_wait_rest_token (defs := defs₀ (F := F)) 𝒱₀ ER (sched P) (c : Thread nD τ) none (κ := κ (tCell c i))
    (wpE_waitDma2_eq 𝒱₀ (c : Thread nD τ) none Set.univ) (Set.mem_univ _) () (O := O) (W := W) (R := 0) (m := 0) (T := ∅)
    (by rw [Nat.zero_add, expect_t P c i, hN])) $$ [HC HO HM Hat]
  · isplitl []; · iexact HIc
    isplitl [HC]; · iexact HC
    isplitl [HO]; · iexact HO
    isplitl [HM]; · iexact HM
    iexact Hat
  iintro ⟨HO, Hat, -, Hpay⟩
  ihave Hpay := (Entails.of_eq (rest_t P c i)) $$ Hpay
  iapply HK
  isplitl [HO]; · iexists _; iexact HO
  isplitl [Hat]; · iexact Hat
  iexact Hpay

/-- The transfer of the device's own chunk `j` of the first operand into the neighbour's result buffer across `y`. -/
theorem wp_sendY (c n : Dev nD) (hn : n = yn c) (j : Fin 16) {s₀ s₁ : DmaSem sig} (h₀ : s₀ = tsem (0, j)) (h₁ : s₁ = tsem (1, j))
    {off : Fin 2 → ℕ} {inb} (e : off = ![64 * (own c j).val, 0])
    {hsc : (cut oM off inb : Memref sig (Dev.tc n : Thread nD τ).2.kind .vmem S64x2048 .f32).view.ref.isScScratch = false}
    {hsrc : (cut pM off inb).view.WordExact} {hdst : (cut oM off inb).view.WordExact}
    {hsem : DmaTarget.Typed .vmem (.dma s₁) (.remote (Dev.tc n : Thread nD τ) (cut oM off inb) (.dma s₀) hsc)} :
    iprop(invT P κ ∗ pPt c (own c j) (P c) ∗ oAny (F := F) (yn c) (own c j) ∗ oweW c (O₂ c j.val)
        ∗ dutyTok ER (tCell c (0, j)) 0 false ∗ reached ER (tCell c (0, j)) 0
        ∗ dutyTok ER (tCell (yn c) (1, j)) 0 false ∗ reached ER (tCell (yn c) (1, j)) 0)
      ⊢ iprop(((cred (tallyAt (tCell c (0, j)) () N) ∗ oweW c (O₂ c (j.val + 1))) -∗ WP c (k ⟨⟩) Q)
          -∗ WP c (.op (.enqueueDma (cut pM off inb) (.remote (Dev.tc n : Thread nD τ) (cut oM off inb) (.dma s₀) hsc) (.dma s₁) hsrc hdst hsem) k) Q) := by
  subst hn h₀ h₁ e
  unfold oweW oAny oPt pPt
  iintro ⟨#HI, Hp, ⟨%fd, Ho⟩, ⟨%W, HO⟩, D₀, R₀, D₁, R₁⟩
  iintro HK
  ihave #HI₀ := (invT_at P κ c (0, j)) $$ HI
  ihave #HI₁ := (invT_at P κ (yn c) (1, j)) $$ HI
  iapply (Rounds.wp_send_pointsTo (defs := defs₀ (F := F)) 𝒱₀ ER (sched P) (c : Thread nD τ) none (κ₁ := κ (tCell c (0, j))) (κ₂ := κ (tCell (yn c) (1, j)))
    (r₁ := 0) (r₂ := 0) (d₁ := false) (d₂ := false) (fs := P c) (fd := fd)
    (by rw [duties_t]; exact Finset.mem_singleton_self _) (by rw [duties_t]; exact Finset.mem_singleton_self _)
    () () N rfl (amount_t P c (0, j) false) (amount_t P (yn c) (1, j) false) (O₂ c (j.val + 1)) (O₂_peel c j)
    (W := W)
    (by rw [payload_t P c (0, j)]; show _ ⊢ pPt c (own c j) (P c); unfold pPt; rw [← set_p])
    (by rw [payload_t P (yn c) (1, j)]; show _ ⊢ oPt (yn c) (own (yn c) j) (P (yn (yn c)))
        rw [own_yn, yn_yn, ← oPt_congr (yn c) (own c j) (chunkOf_write (own c j) fd (chunkOf (own c j) (P c)))]
        unfold oPt; rw [← set_o]; exact .rfl)) $$ [Hp Ho HO D₀ R₀ D₁ R₁]
  · isplitl []; · iexact HI₀
    isplitl []; · iexact HI₁
    isplitl [Hp]; · rw [← set_p]; iexact Hp
    isplitl [Ho]; · rw [← set_o]; iexact Ho
    isplitl [HO]; · iexact HO
    isplitl [D₀]; · iexact D₀
    isplitl [R₀]; · iexact R₀
    isplitl [D₁]; · iexact D₁
    iexact R₁
  iintro ⟨HC, HO⟩
  iapply HK
  isplitl [HC]; · iexact HC
  iexists _; iexact HO

/-- The transfer of the device's own chunk `j` of its result buffer, the sum across `y` in it, into the neighbour's across `x`. -/
theorem wp_sendX (c n : Dev nD) (hn : n = xn c) (j : Fin 16) {s₀ s₁ : DmaSem sig} (h₀ : s₀ = tsem (2, j)) (h₁ : s₁ = tsem (3, j))
    {off : Fin 2 → ℕ} {inb} (e : off = ![64 * (own c j).val, 0])
    {hsc : (cut oM off inb : Memref sig (Dev.tc n : Thread nD τ).2.kind .vmem S64x2048 .f32).view.ref.isScScratch = false}
    {hsrc : (cut oM off inb).view.WordExact} {hdst : (cut oM off inb).view.WordExact}
    {hsem : DmaTarget.Typed .vmem (.dma s₁) (.remote (Dev.tc n : Thread nD τ) (cut oM off inb) (.dma s₀) hsc)} :
    iprop(invT P κ ∗ oPt c (own c j) (Ssum P c) ∗ oAny (F := F) (xn c) (own c j) ∗ oweW c (xO c j.val)
        ∗ dutyTok ER (tCell c (2, j)) 0 false ∗ reached ER (tCell c (2, j)) 0
        ∗ dutyTok ER (tCell (xn c) (3, j)) 0 false ∗ reached ER (tCell (xn c) (3, j)) 0)
      ⊢ iprop(((cred (tallyAt (tCell c (2, j)) () N) ∗ oweW c (xO c (j.val + 1))) -∗ WP c (k ⟨⟩) Q)
          -∗ WP c (.op (.enqueueDma (cut oM off inb) (.remote (Dev.tc n : Thread nD τ) (cut oM off inb) (.dma s₀) hsc) (.dma s₁) hsrc hdst hsem) k) Q) := by
  subst hn h₀ h₁ e
  unfold oweW oAny oPt
  iintro ⟨#HI, Hp, ⟨%fd, Ho⟩, ⟨%W, HO⟩, D₀, R₀, D₁, R₁⟩
  iintro HK
  ihave #HI₀ := (invT_at P κ c (2, j)) $$ HI
  ihave #HI₁ := (invT_at P κ (xn c) (3, j)) $$ HI
  iapply (Rounds.wp_send_pointsTo (defs := defs₀ (F := F)) 𝒱₀ ER (sched P) (c : Thread nD τ) none (κ₁ := κ (tCell c (2, j))) (κ₂ := κ (tCell (xn c) (3, j)))
    (r₁ := 0) (r₂ := 0) (d₁ := false) (d₂ := false) (fs := Ssum P c) (fd := fd)
    (by rw [duties_t]; exact Finset.mem_singleton_self _) (by rw [duties_t]; exact Finset.mem_singleton_self _)
    () () N rfl (amount_t P c (2, j) false) (amount_t P (xn c) (3, j) false) (xO c (j.val + 1)) (xO_peel c j)
    (W := W)
    (by rw [payload_t P c (2, j)]; show _ ⊢ oPt c (own c j) (Ssum P c); unfold oPt; rw [← set_o])
    (by rw [payload_t P (xn c) (3, j)]; show _ ⊢ oPt (xn c) (oth (xn c) j) (Ssum P (xn (xn c)))
        rw [oth_xn, xn_xn, ← oPt_congr (xn c) (own c j) (chunkOf_write (own c j) fd (chunkOf (own c j) (Ssum P c)))]
        unfold oPt; rw [← set_o]; exact .rfl)) $$ [Hp Ho HO D₀ R₀ D₁ R₁]
  · isplitl []; · iexact HI₀
    isplitl []; · iexact HI₁
    isplitl [Hp]; · rw [← set_o]; iexact Hp
    isplitl [Ho]; · rw [← set_o]; iexact Ho
    isplitl [HO]; · iexact HO
    isplitl [D₀]; · iexact D₀
    isplitl [R₀]; · iexact R₀
    isplitl [D₁]; · iexact D₁
    iexact R₁
  iintro ⟨HC, HO⟩
  iapply HK
  isplitl [HC]; · iexact HC
  iexists _; iexact HO

end Ops

section Mem

variable {α : Type} {Q : α → sProp (MT nD τ sig Unit (Elt F) ℕ UU ℕ)}

/-- A chunk of the first operand loaded. -/
theorem wp_loadP (c : Dev nD) (b : Fin 32) (f : Big F) {off : Fin 2 → ℕ} {inb} (e : off = ![64 * b.val, 0])
    {hl : (pM : Memref sig .tc .vmem S2048x2048 .f32).view.LoadsAt (Rect.unit (s := S2048x2048) off S64x2048.size inb).toLoadRect}
    {k : ((Rect.unit (s := S2048x2048) off S64x2048.size inb).toLoadRect.shape.Idx → Elt F .f32) → Prog (TpuEff nD τ sig (Elt F) Λ₀ .tc) α} :
    (pPt c b f : sProp 𝕄) ⊢ iprop((pPt c b f -∗ WP c (k (chunkOf b f)) Q)
      -∗ WP c (.op (.load (pM : Memref sig .tc .vmem S2048x2048 .f32) (Rect.unit (s := S2048x2048) off S64x2048.size inb).toLoadRect hl) k) Q) := by
  subst e
  unfold pPt
  rw [← read_p]
  exact wp_load_rect (defs := defs₀ (F := F)) 𝒱₀ (c : Thread nD τ) none Set.univ (m := pM) (r := chk b) (by rw [set_p])

/-- A chunk of the result buffer loaded. -/
theorem wp_loadO (c : Dev nD) (b : Fin 32) (f : Big F) {off : Fin 2 → ℕ} {inb} (e : off = ![64 * b.val, 0])
    {hl : (oM : Memref sig .tc .vmem S2048x2048 .f32).view.LoadsAt (Rect.unit (s := S2048x2048) off S64x2048.size inb).toLoadRect}
    {k : ((Rect.unit (s := S2048x2048) off S64x2048.size inb).toLoadRect.shape.Idx → Elt F .f32) → Prog (TpuEff nD τ sig (Elt F) Λ₀ .tc) α} :
    (oPt c b f : sProp 𝕄) ⊢ iprop((oPt c b f -∗ WP c (k (chunkOf b f)) Q)
      -∗ WP c (.op (.load (oM : Memref sig .tc .vmem S2048x2048 .f32) (Rect.unit (s := S2048x2048) off S64x2048.size inb).toLoadRect hl) k) Q) := by
  subst e
  unfold oPt
  rw [← read_o]
  exact wp_load_rect (defs := defs₀ (F := F)) 𝒱₀ (c : Thread nD τ) none Set.univ (m := oM) (r := chk b) (by rw [set_o])

/-- The whole second operand on device `c`, the whole third. -/
def rPt (c : Dev nD) (f : Big F) : sProp 𝕄 := rLoc c ↦{fullShare} f
def gPt (c : Dev nD) (g : S1x2048.Idx → F .f32) : sProp 𝕄 := gLoc c ↦{fullShare} g

/-- A chunk of the second operand loaded. -/
theorem wp_loadR (c : Dev nD) (b : Fin 32) (f : Big F) {off : Fin 2 → ℕ} {inb} (e : off = ![64 * b.val, 0])
    {hl : (rM : Memref sig .tc .vmem S2048x2048 .f32).view.LoadsAt (Rect.unit (s := S2048x2048) off S64x2048.size inb).toLoadRect}
    {k : ((Rect.unit (s := S2048x2048) off S64x2048.size inb).toLoadRect.shape.Idx → Elt F .f32) → Prog (TpuEff nD τ sig (Elt F) Λ₀ .tc) α} :
    (rPt c f : sProp 𝕄) ⊢ iprop((rPt c f -∗ WP c (k (chunkOf b f)) Q)
      -∗ WP c (.op (.load (rM : Memref sig .tc .vmem S2048x2048 .f32) (Rect.unit (s := S2048x2048) off S64x2048.size inb).toLoadRect hl) k) Q) := by
  subst e
  unfold rPt
  rw [← read_r]
  exact wp_load_rect (defs := defs₀ (F := F)) 𝒱₀ (c : Thread nD τ) none Set.univ (m := rM) (r := chk b) (Finset.subset_univ _)

theorem hz : (![0, 0] : Fin 2 → Nat) = fun _ => 0 := funext fun a => by fin_cases a <;> rfl

/-- The whole third operand loaded. -/
theorem wp_loadG (c : Dev nD) (g : S1x2048.Idx → F .f32) {inb}
    {hl : (gM : Memref sig .tc .vmem S1x2048 .f32).view.LoadsAt (Rect.unit (s := S1x2048) ![0, 0] S1x2048.size inb).toLoadRect}
    {k : ((Rect.unit (s := S1x2048) ![0, 0] S1x2048.size inb).toLoadRect.shape.Idx → Elt F .f32) → Prog (TpuEff nD τ sig (Elt F) Λ₀ .tc) α} :
    (gPt c g : sProp 𝕄) ⊢ iprop((gPt c g -∗ WP c (k g) Q)
      -∗ WP c (.op (.load (gM : Memref sig .tc .vmem S1x2048 .f32) (Rect.unit (s := S1x2048) ![0, 0] S1x2048.size inb).toLoadRect hl) k) Q) := by
  unfold gPt
  have h := wp_load (defs := defs₀ (F := F)) (Λ := Λ₀) (Γ := .empty) (Q := Q) (k := k) (q := fullShare) (f := g) 𝒱₀ (c : Thread nD τ) none Set.univ (m := gM)
    (r := (Rect.unit (s := S1x2048) ![0, 0] S1x2048.size inb).toLoadRect) (hl := hl) (Finset.subset_univ _)
  rw [show (gM : Memref sig .tc .vmem S1x2048 .f32).view.readAt (Elt F) (Rect.unit (s := S1x2048) ![0, 0] S1x2048.size inb).toLoadRect g = g
    from Memref.readAt_unit_zero (Elt F) cc0_stg2_0 hz _ g] at h
  exact h

/-- A chunk of the result buffer stored. -/
theorem wp_storeO (c : Dev nD) (b : Fin 32) (f f' : Big F) {w : Sm F} (hw : chunkOf b f' = w) {off : Fin 2 → ℕ} {inb} (e : off = ![64 * b.val, 0])
    {hs : (oM.access (Rect.unit (s := S2048x2048) off S64x2048.size inb)).Stores Finset.univ} {he}
    {k : PUnit → Prog (TpuEff nD τ sig (Elt F) Λ₀ .tc) α} :
    (oPt c b f : sProp 𝕄) ⊢ iprop((oPt c b f' -∗ WP c (k ⟨⟩) Q)
      -∗ WP c (.op (.store oM (Rect.unit (s := S2048x2048) off S64x2048.size inb) w Finset.univ hs he) k) Q) := by
  subst e
  rw [oPt_congr c b (f := f') (hw.trans (chunkOf_write b f w).symm)]
  unfold oPt
  exact wp_store (defs := defs₀ (F := F)) 𝒱₀ (c : Thread nD τ) none Set.univ (m := oM) (r := chk b) (by rw [View.setOn_univ, set_o])

end Mem

end Cert.Fused
-- ==== Proof.Trips.lean ====
/-
# The trips of the two loops

The first loop sends chunk `k` across `y` on trip `k`. Trip `t` of the second loop sums chunk `t` and sends the sum across `x`,
while there is one left, and then finishes the two chunks `t - 3`, the own and the other.
-/
module

public import proofs.«01_k».proof.Proof.Steps

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Big F) (r : Big F) (g : S1x2048.Idx → F .f32) (κ : GSem nD τ sig → ℕ) (c : Dev nD)
  (hp : (pM : Memref sig .tc .vmem S2048x2048 .f32).IsWhole) (hr : (rM : Memref sig .tc .vmem S2048x2048 .f32).IsWhole)
  (hg : (gM : Memref sig .tc .vmem S1x2048 .f32).IsWhole) (ho : (oM : Memref sig .tc .vmem S2048x2048 .f32).IsWhole)

/-! ## What a chunk's step takes and leaves -/

/-- A duty's token with the cell at its first round. -/
def pay (c : Dev nD) (i : Fin 4 × Fin 16) : sProp 𝕄 := iprop(dutyTok ER (tCell c i) 0 false ∗ reached ER (tCell c i) 0)
/-- A wait's credit and position. -/
def due (c : Dev nD) (i : Fin 4 × Fin 16) : sProp 𝕄 := iprop(cred (tallyAt (tCell c i) () N) ∗ atPos ER (tCell c i) 0 ∅ 0)

def preY (k : Fin 16) : sProp 𝕄 :=
  iprop(pPt c (own c k) (P c) ∗ oAny (F := F) (yn c) (own c k) ∗ pay (F := F) c (0, k) ∗ pay (F := F) (yn c) (1, k))
def preA (k : Fin 16) : sProp 𝕄 :=
  iprop(due (F := F) c (0, k) ∗ due (F := F) c (1, k) ∗ pay (F := F) c (2, k) ∗ pay (F := F) (xn c) (3, k)
    ∗ atPos ER (tCell c (2, k)) 0 ∅ 0 ∗ oAny (F := F) (xn c) (own c k))
def postA (k : Fin 16) : sProp 𝕄 :=
  iprop(pPt c (own c k) (P c) ∗ atPos ER (tCell c (0, k)) 1 ∅ 0 ∗ atPos ER (tCell c (1, k)) 1 ∅ 0)
def postB (k : Fin 16) : sProp 𝕄 :=
  iprop(oPt c (own c k) (normed (Ssum P c) r g) ∗ oPt c (oth c k) (normed (Ssum P (xn c)) r g)
    ∗ atPos ER (tCell c (2, k)) 1 ∅ 0 ∗ atPos ER (tCell c (3, k)) 1 ∅ 0)

/-! ## One chunk -/

theorem mayWait_low (sm : SemLoc sig) (n : ℕ) (hs : lv ((c : Thread nD τ), sm) () ≤ 2) :
    (levAts L lv : sProp 𝕄) ⊢ MayWait (c : Thread nD τ) sm () (xO c n) := mayWait_x c sm n (by omega)

/-- The first loop's trip. -/
theorem tripY (t : Fin k0_t1_loop.trips) (k : Fin 16) (hk : t.val = k.val) (u : Unit) :
    iprop(invT P κ ∗ preY P c k ∗ oweW c (O₂ c k.val))
      ⊢ WP c (k0_t1_body pM hp rM hr gM hg oM ho cc0_scratch0 cc0_scratch1 cc0_scratch2 cc0_scratch3 c t u)
          fun _ => iprop(cred (tallyAt (tCell c (0, k)) () N) ∗ oweW c (O₂ c (k.val + 1))) := by
  unfold k0_t1_body preY pay
  simp only [Prog.lift, Prog.bind_op, Prog.bind_ret, Prog.pure_eq_ret]
  iintro ⟨#HI, ⟨Hp, Ho, ⟨D₀, R₀⟩, ⟨D₁, R₁⟩⟩, HO⟩
  iapply (wp_sendY P κ c _ (dev3_yn c) k ((pick_eq _ k _ ((k0_off1_eq t).trans (by rw [hk]))).trans (ix0 k))
    ((pick_eq _ k _ ((k0_off1_eq t).trans (by rw [hk]))).trans (ix1 k))
    ((k0_off2_eq c t).trans (by rw [hk]; exact off_own c k))) $$ [Hp Ho HO D₀ R₀ D₁ R₁]
  · isplitl []; · iexact HI
    isplitl [Hp]; · iexact Hp
    isplitl [Ho]; · iexact Ho
    isplitl [HO]; · iexact HO
    isplitl [D₀]; · iexact D₀
    isplitl [R₀]; · iexact R₀
    isplitl [D₁]; · iexact D₁
    iexact R₁
  iintro H
  unfold WP; rw [wp_ret]; imodintro
  iexact H

/-- The kernel's text of a second trip's first part, before `q`, and of its last part. -/
def progA (v2 v5 v8 v9 v10 v11 : BitVec 32) (t : Fin k0_t2_loop.trips) (h1 : k0_cond1 t = 1#1)
    (q : Prog (TpuEff nD τ sig (Elt F) Λ₀ .tc) Unit) : Prog (TpuEff nD τ sig (Elt F) Λ₀ .tc) Unit := do
  k0_part1 pM hp rM hr gM hg oM ho cc0_scratch0 cc0_scratch1 cc0_scratch2 cc0_scratch3 c v2 v5 v8 v9 v10 v11 t (Scf.iv 0#32 1#32 t) h1
  Prog.lift (.enqueueDma (cut oM (k0_off4 c t) (k0_off4_inb c t h1))
    (.remote (Dev.tc (⟨k0_dev4 c, k0_dev4_lt c t h1⟩ : Dev nD)) (cut oM (k0_off4 c t) (k0_off4_inb c t h1))
      (.dma (pick cc0_scratch2 (k0_off3 t) (k0_off3_inb t h1))))
    (.dma (pick cc0_scratch3 (k0_off3 t) (k0_off3_inb t h1))) (View.wordExact_bits rfl) (View.wordExact_bits rfl) ⟨⟨rfl, Or.inl rfl⟩, trivial⟩)
  q

def progB (v5 v8 v10 v11 v13 : BitVec 32) (t : Fin k0_t2_loop.trips) (h2 : k0_cond2 t = 1#1) :
    Prog (TpuEff nD τ sig (Elt F) Λ₀ .tc) Unit := do
  let ⟨_, _, _⟩ ← k0_part2 pM hp rM hr gM hg oM ho cc0_scratch0 cc0_scratch1 cc0_scratch2 cc0_scratch3 c v5 v8 v10 v11 v13 t (Scf.iv 0#32 1#32 t) h2
  Prog.lift (.waitDma2 (pick cc0_scratch3 (k0_off6 t) (k0_off6_inb t h2)) (cut oM (k0_off9 c t) (k0_off9_inb c t h2))
    (cut oM (k0_off9 c t) (k0_off9_inb c t h2)) (View.wordExact_bits rfl) (View.wordExact_bits rfl))
  let s : Vec F S64x2048 .f32 ← Prog.lift (.load oM (Rect.unit (s := S2048x2048) (k0_off10 c t) S64x2048.size (k0_off10_inb c t h2)).toLoadRect (View.loadsAt_vmem h_S64x2048))
  let x : Vec F S64x2048 .f32 ← Prog.lift (.load rM (Rect.unit (s := S2048x2048) (k0_off10 c t) S64x2048.size (k0_off10_inb c t h2)).toLoadRect (View.loadsAt_vmem h_S64x2048))
  let y : Vec F S1x2048 .f32 ← Prog.lift (.load gM (Rect.unit (s := S1x2048) ![0, 0] S1x2048.size inb_S1x2048_S1x2048_0_0).toLoadRect (View.loadsAt_vmem h_S1x2048))
  let _ : Vec F S64x2048 .f32 ← Prog.lift (.load oM (Rect.unit (s := S2048x2048) (k0_off10 c t) S64x2048.size (k0_off10_inb c t h2)).toLoadRect (View.loadsAt_vmem h_S64x2048))
  Prog.lift (.store oM (Rect.unit (s := S2048x2048) (k0_off10 c t) S64x2048.size (k0_off10_inb c t h2)) (k0_pay1 s x y) Finset.univ (View.stores_vmem_bits_univ h_S64x2048 rfl) (.inl rfl))
  pure ⟨⟩

theorem trip_eq (v2 v5 v8 v9 v10 v11 v13 : BitVec 32) (t : Fin k0_t2_loop.trips) (u : Unit) :
    k0_t2_body (F := F) pM hp rM hr gM hg oM ho cc0_scratch0 cc0_scratch1 cc0_scratch2 cc0_scratch3 c v2 v5 v8 v9 v10 v11 v13 t u
      = if h1 : k0_cond1 t = 1#1 then
          progA c hp hr hg ho v2 v5 v8 v9 v10 v11 t h1 (if h2 : k0_cond2 t = 1#1 then progB c hp hr hg ho v5 v8 v10 v11 v13 t h2 else .ret ⟨⟩)
        else if h2 : k0_cond2 t = 1#1 then progB c hp hr hg ho v5 v8 v10 v11 v13 t h2 else .ret ⟨⟩ := rfl

theorem chunk_sum (b : Fin 32) : chunkOf b (Ssum P c) = k0_pay2 (chunkOf b (P (yn c))) (chunkOf b (P c)) := chunkOf_chunked _ b
theorem chunk_normed (b : Fin 32) (s : Big F) : chunkOf b (normed s r g) = k0_pay3 (chunkOf b s) (chunkOf b r) g := chunkOf_chunked _ b

/-- What the second loop's trip does first, to chunk `k`: the waits for its two transfers across `y`, the sum, the transfer across `x`. -/
theorem tripA (v2 v5 v8 v9 v10 v11 : BitVec 32) (t : Fin k0_t2_loop.trips) (h1 : k0_cond1 t = 1#1) (k : Fin 16) (hk : t.val = k.val)
    (q : Prog (TpuEff nD τ sig (Elt F) Λ₀ .tc) Unit) {Q : Unit → sProp (MT nD τ sig Unit (Elt F) ℕ UU ℕ)} :
    iprop(invT P κ ∗ levAts L lv ∗ preA (F := F) c k ∗ oweW c (xO c k.val))
      ⊢ iprop(((postA P c k ∗ due (F := F) c (2, k) ∗ oweW c (xO c (k.val + 1))) -∗ WP c q Q)
        -∗ WP c (progA c hp hr hg ho v2 v5 v8 v9 v10 v11 t h1 q) Q) := by
  have e3 : k0_off3 t = ![k.val] := (k0_off3_eq t).trans (by rw [hk])
  have e4 : k0_off4 c t = ![64 * (own c k).val, 0] := (k0_off4_eq c t).trans (by rw [hk]; exact off_own c k)
  have e5 : k0_off5 c t = ![64 * (own c k).val, 0] := (k0_off5_eq c t).trans (by rw [hk]; exact off_own c k)
  unfold progA preA postA due pay
  simp only [k0_part1_eq_skeleton]
  unfold k0_part1_skel
  simp only [Prog.lift, Prog.bind_op, Prog.bind_ret, Prog.pure_eq_ret]
  iintro ⟨#HI, #HL, ⟨⟨C₀, A₀⟩, ⟨C₁, A₁⟩, ⟨D₂, R₂⟩, ⟨D₃, R₃⟩, A₂, Hx⟩, HO⟩
  iintro HK
  iapply (wp_waitT P κ c (0, k) ((pick_eq _ k _ e3).trans (ix0 k)) rfl (xO c k.val) (mayWait_low c _ _ (by rw [lv_ys]; omega))) $$ [C₀ A₀ HO]
  · isplitl []; · iexact HI
    isplitl []; · iexact HL
    isplitl [C₀]; · iexact C₀
    isplitl [HO]; · iexact HO
    iexact A₀
  iintro ⟨HO, A₀, Hp⟩
  iapply (wp_waitT P κ c (1, k) ((pick_eq _ k _ e3).trans (ix1 k)) rfl (xO c k.val) (mayWait_low c _ _ (by rw [lv_yr]))) $$ [C₁ A₁ HO]
  · isplitl []; · iexact HI
    isplitl []; · iexact HL
    isplitl [C₁]; · iexact C₁
    isplitl [HO]; · iexact HO
    iexact A₁
  iintro ⟨HO, A₁, Ho⟩
  unfold tPay
  iapply (wp_loadO c (own c k) (P (yn c)) e5) $$ Ho
  iintro Ho
  iapply (wp_loadP c (own c k) (P c) e5) $$ Hp
  iintro Hp
  iapply (wp_loadO c (own c k) (P (yn c)) e5) $$ Ho
  iintro Ho
  iapply (wp_storeO c (own c k) (P (yn c)) (Ssum P c) (chunk_sum P c (own c k)) e5) $$ Ho
  iintro Ho
  iapply (wp_sendX P κ c _ (dev4_xn c t h1) k ((pick_eq _ k _ e3).trans (ix2 k)) ((pick_eq _ k _ e3).trans (ix3 k)) e4) $$ [Ho Hx HO D₂ R₂ D₃ R₃]
  · isplitl []; · iexact HI
    isplitl [Ho]; · iexact Ho
    isplitl [Hx]; · iexact Hx
    isplitl [HO]; · iexact HO
    isplitl [D₂]; · iexact D₂
    isplitl [R₂]; · iexact R₂
    isplitl [D₃]; · iexact D₃
    iexact R₃
  iintro ⟨C₂, HO⟩
  iapply HK
  isplitl [Hp A₀ A₁]
  · isplitl [Hp]; · iexact Hp
    isplitl [A₀]; · iexact A₀
    iexact A₁
  isplitl [C₂ A₂]
  · isplitl [C₂]; · iexact C₂
    iexact A₂
  iexact HO

/-- What it does last, to chunk `k` of either half: the waits for the transfers across `x`, the addition and the normalising. -/
theorem tripB (v5 v8 v10 v11 v13 : BitVec 32) (t : Fin k0_t2_loop.trips) (h2 : k0_cond2 t = 1#1) (k : Fin 16) (hk : t.val = k.val + 3)
    (a : ℕ) (ha : k.val < a) :
    iprop(invT P κ ∗ levAts L lv ∗ due (F := F) c (2, k) ∗ due (F := F) c (3, k) ∗ rPt c r ∗ gPt c g ∗ oweW c (xO c a))
      ⊢ WP c (progB c hp hr hg ho v5 v8 v10 v11 v13 t h2) fun _ => iprop(postB P r g c k ∗ rPt c r ∗ gPt c g ∗ oweW c (xO c a)) := by
  have e6 : k0_off6 t = ![k.val] := off6_eq t k hk
  have e8 := off8_eq c t k hk
  have e10 := off10_eq c t k hk
  unfold progB postB due
  simp only [k0_part2_eq_skeleton]
  unfold k0_part2_skel
  simp only [Prog.lift, Prog.bind_op, Prog.bind_ret, Prog.pure_eq_ret]
  iintro ⟨#HI, #HL, ⟨C₂, A₂⟩, ⟨C₃, A₃⟩, Hr, Hg, HO⟩
  iapply (wp_waitT P κ c (2, k) ((pick_eq _ k _ e6).trans (ix2 k)) rfl (xO c a) (mayWait_low c _ _ (by rw [lv_xs]; omega))) $$ [C₂ A₂ HO]
  · isplitl []; · iexact HI
    isplitl []; · iexact HL
    isplitl [C₂]; · iexact C₂
    isplitl [HO]; · iexact HO
    iexact A₂
  iintro ⟨HO, A₂, Hs⟩
  unfold tPay
  iapply (wp_loadO c (own c k) (Ssum P c) e8) $$ Hs
  iintro Hs
  iapply (wp_loadR c (own c k) r e8) $$ Hr
  iintro Hr
  iapply (wp_loadG c g) $$ Hg
  iintro Hg
  iapply (wp_loadO c (own c k) (Ssum P c) e8) $$ Hs
  iintro Hs
  iapply (wp_storeO c (own c k) (Ssum P c) (normed (Ssum P c) r g) (chunk_normed r g (own c k) (Ssum P c)) e8) $$ Hs
  iintro Hs
  iapply (wp_waitT P κ c (3, k) ((pick_eq _ k _ e6).trans (ix3 k)) rfl (xO c a) (mayWait_x c _ _ (by rw [lv_xr]; omega))) $$ [C₃ A₃ HO]
  · isplitl []; · iexact HI
    isplitl []; · iexact HL
    isplitl [C₃]; · iexact C₃
    isplitl [HO]; · iexact HO
    iexact A₃
  iintro ⟨HO, A₃, Ho⟩
  unfold tPay
  iapply (wp_loadO c (oth c k) (Ssum P (xn c)) e10) $$ Ho
  iintro Ho
  iapply (wp_loadR c (oth c k) r e10) $$ Hr
  iintro Hr
  iapply (wp_loadG c g) $$ Hg
  iintro Hg
  iapply (wp_loadO c (oth c k) (Ssum P (xn c)) e10) $$ Ho
  iintro Ho
  iapply (wp_storeO c (oth c k) (Ssum P (xn c)) (normed (Ssum P (xn c)) r g) (chunk_normed r g (oth c k) (Ssum P (xn c))) e10) $$ Ho
  iintro Ho
  unfold WP; rw [wp_ret]; imodintro
  isplitl [Hs Ho A₂ A₃]
  · isplitl [Hs]; · iexact Hs
    isplitl [Ho]; · iexact Ho
    isplitl [A₂]; · iexact A₂
    iexact A₃
  isplitl [Hr]; · iexact Hr
  isplitl [Hg]; · iexact Hg
  iexact HO

end Cert.Fused
-- ==== Proof.Loops.lean ====
/-
# The two loops

Each loop by an invariant over the chunks: those still to come, those under way, those finished.
-/
module

public import proofs.«01_k».proof.Proof.Trips

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Big F) (r : Big F) (g : S1x2048.Idx → F .f32) (κ : GSem nD τ sig → ℕ) (c : Dev nD)
  (hp : (pM : Memref sig .tc .vmem S2048x2048 .f32).IsWhole) (hr : (rM : Memref sig .tc .vmem S2048x2048 .f32).IsWhole)
  (hg : (gM : Memref sig .tc .vmem S1x2048 .f32).IsWhole) (ho : (oM : Memref sig .tc .vmem S2048x2048 .f32).IsWhole)

theorem bigSep_put {k : Fin 16} {s : Finset (Fin 16)} (h : k ∉ s) (Φ : Fin 16 → sProp 𝕄) :
    bigSep (insert k s) Φ = iprop(Φ k ∗ bigSep s Φ) := bigSep_insert h

/-! ## The first loop -/

/-- Before trip `n`. -/
def inv1 (n : ℕ) : sProp 𝕄 :=
  iprop(bigSep (ge n) (preY P c) ∗ bigSep (lt n) (fun k => cred (tallyAt (tCell c (0, k)) () N)) ∗ oweW c (O₂ c n))

theorem inv1_step (t : Fin k0_t1_loop.trips) (u : Unit) :
    iprop(invT P κ ∗ inv1 P c t.val)
      ⊢ WP c (k0_t1_body pM hp rM hr gM hg oM ho cc0_scratch0 cc0_scratch1 cc0_scratch2 cc0_scratch3 c t u)
          fun _ => iprop(invT P κ ∗ inv1 P c (t.val + 1)) := by
  obtain ⟨k, hk⟩ : ∃ k : Fin 16, t.val = k.val := ⟨⟨t.val, t1_lt t⟩, rfl⟩
  rw [hk]
  unfold inv1
  rw [ge_peel k, lt_push k, bigSep_put (not_mem_ge k) _, bigSep_put (not_mem_lt k) _]
  iintro ⟨#HI, ⟨Hk, Hge⟩, Hlt, HO⟩
  iapply (wp_wand_r frame (wpE (defs₀ (F := F)) 𝒱₀ (c : Thread nD τ) none) Set.univ)
  isplitl [Hk HO]
  · iapply (tripY P κ c hp hr hg ho t k hk u)
    isplitl []; · iexact HI
    isplitl [Hk]; · iexact Hk
    iexact HO
  iintro %_ ⟨HC, HO⟩
  isplitl []; · iexact HI
  isplitl [Hge]; · iexact Hge
  isplitl [HC Hlt]
  · isplitl [HC]; · iexact HC
    iexact Hlt
  iexact HO

/-- The whole first loop. -/
theorem loop1 {Q : Unit → sProp (MT nD τ sig Unit (Elt F) ℕ UU ℕ)} :
    iprop(invT P κ ∗ bigSep Finset.univ (preY P c) ∗ oweW c (O₂ c 0))
      ⊢ iprop(((bigSep Finset.univ (fun k : Fin 16 => cred (tallyAt (tCell c (0, k)) () N)) ∗ oweW c (xO c 0)) -∗ Q ⟨⟩)
        -∗ WP c (Scf.Loop.for k0_t1_loop k0_t1_ok ⟨⟩
          (k0_t1_body pM hp rM hr gM hg oM ho cc0_scratch0 cc0_scratch1 cc0_scratch2 cc0_scratch3 c)) Q) := by
  have h := Scf.wp_for frame (wpE (defs₀ (F := F)) 𝒱₀ (c : Thread nD τ) none) Set.univ k0_t1_loop.lb k0_t1_loop.ub k0_t1_loop.st k0_t1_ok ⟨⟩
    (k0_t1_body pM hp rM hr gM hg oM ho cc0_scratch0 cc0_scratch1 cc0_scratch2 cc0_scratch3 c)
    (fun n _ => iprop(invT P κ ∗ inv1 P c n)) (fun t u => inv1_step P κ c hp hr hg ho t u) (Q := Q)
  iintro ⟨#HI, Hpre, HO⟩
  iintro HK
  iapply h
  isplitl [Hpre HO]
  · isplitl []; · iexact HI
    unfold inv1
    rw [ge_zero, lt_zero, bigSep_empty]
    isplitl [Hpre]; · iexact Hpre
    isplitl []; · iempintro
    iexact HO
  iintro %_ ⟨-, H⟩
  rw [show Scf.trips k0_t1_loop.lb k0_t1_loop.ub k0_t1_loop.st = 16 from t1_trips]
  unfold inv1
  rw [ge_end, lt_end, O₂_end]
  icases H with ⟨-, Hlt, HO⟩
  iapply HK
  isplitl [Hlt]; · iexact Hlt
  iexact HO

/-! ## The second loop -/

/-- Chunks below `a` summed and sent on, chunks below `b` finished. -/
def inv2 (a b : ℕ) : sProp 𝕄 :=
  iprop(bigSep (ge a) (preA (F := F) c) ∗ bigSep (lt a) (postA P c) ∗ bigSep (mid b a) (fun k => due (F := F) c (2, k))
    ∗ bigSep (ge b) (fun k => due (F := F) c (3, k)) ∗ bigSep (lt b) (postB P r g c) ∗ rPt c r ∗ gPt c g ∗ oweW c (xO c a))

theorem inv2_A (v2 v5 v8 v9 v10 v11 : BitVec 32) (t : Fin k0_t2_loop.trips) (h1 : k0_cond1 t = 1#1) (k : Fin 16) (hk : t.val = k.val)
    (b : ℕ) (hb : b ≤ k.val) (q : Prog (TpuEff nD τ sig (Elt F) Λ₀ .tc) Unit) {Q : Unit → sProp (MT nD τ sig Unit (Elt F) ℕ UU ℕ)} :
    iprop(invT P κ ∗ levAts L lv ∗ inv2 P r g c k.val b)
      ⊢ iprop((inv2 P r g c (k.val + 1) b -∗ WP c q Q) -∗ WP c (progA c hp hr hg ho v2 v5 v8 v9 v10 v11 t h1 q) Q) := by
  unfold inv2
  rw [ge_peel k, lt_push k, mid_push b k hb, bigSep_put (not_mem_ge k) _, bigSep_put (not_mem_lt k) _, bigSep_put (not_mem_mid_top b k) _]
  iintro ⟨#HI, #HL, ⟨Hk, Hge⟩, Hlt, Hmid, Hgb, Hlb, Hr, Hg, HO⟩
  iintro HK
  iapply (tripA P κ c hp hr hg ho v2 v5 v8 v9 v10 v11 t h1 k hk q) $$ [Hk HO]
  · isplitl []; · iexact HI
    isplitl []; · iexact HL
    isplitl [Hk]; · iexact Hk
    iexact HO
  iintro ⟨Hk, Hd, HO⟩
  iapply HK
  isplitl [Hge]; · iexact Hge
  isplitl [Hk Hlt]
  · isplitl [Hk]; · iexact Hk
    iexact Hlt
  isplitl [Hd Hmid]
  · isplitl [Hd]; · iexact Hd
    iexact Hmid
  isplitl [Hgb]; · iexact Hgb
  isplitl [Hlb]; · iexact Hlb
  isplitl [Hr]; · iexact Hr
  isplitl [Hg]; · iexact Hg
  iexact HO

theorem inv2_B (v5 v8 v10 v11 v13 : BitVec 32) (t : Fin k0_t2_loop.trips) (h2 : k0_cond2 t = 1#1) (k : Fin 16) (hk : t.val = k.val + 3)
    (a : ℕ) (ha : k.val < a) :
    iprop(invT P κ ∗ levAts L lv ∗ inv2 P r g c a k.val)
      ⊢ WP c (progB c hp hr hg ho v5 v8 v10 v11 v13 t h2) fun _ => iprop(invT P κ ∗ levAts L lv ∗ inv2 P r g c a (k.val + 1)) := by
  unfold inv2
  rw [ge_peel k, lt_push k, mid_peel a k ha, bigSep_put (not_mem_ge k) _, bigSep_put (not_mem_lt k) _, bigSep_put (not_mem_mid_bot a k) _]
  iintro ⟨#HI, #HL, Hga, Hla, ⟨Hd, Hmid⟩, ⟨He, Hgb⟩, Hlb, Hr, Hg, HO⟩
  iapply (wp_wand_r frame (wpE (defs₀ (F := F)) 𝒱₀ (c : Thread nD τ) none) Set.univ)
  isplitl [Hd He Hr Hg HO]
  · iapply (tripB P r g κ c hp hr hg ho v5 v8 v10 v11 v13 t h2 k hk a ha)
    isplitl []; · iexact HI
    isplitl []; · iexact HL
    isplitl [Hd]; · iexact Hd
    isplitl [He]; · iexact He
    isplitl [Hr]; · iexact Hr
    isplitl [Hg]; · iexact Hg
    iexact HO
  iintro %_ ⟨Hk, Hr, Hg, HO⟩
  isplitl []; · iexact HI
  isplitl []; · iexact HL
  isplitl [Hga]; · iexact Hga
  isplitl [Hla]; · iexact Hla
  isplitl [Hmid]; · iexact Hmid
  isplitl [Hgb]; · iexact Hgb
  isplitl [Hk Hlb]
  · isplitl [Hk]; · iexact Hk
    iexact Hlb
  isplitl [Hr]; · iexact Hr
  isplitl [Hg]; · iexact Hg
  iexact HO

/-- Before trip `n`. -/
def inv2At (n : ℕ) : sProp 𝕄 := iprop(invT P κ ∗ levAts L lv ∗ inv2 P r g c (min n 16) (n - 3))

theorem inv2_last (v5 v8 v10 v11 v13 : BitVec 32) (t : Fin k0_t2_loop.trips) :
    iprop(invT P κ ∗ levAts L lv ∗ inv2 P r g c (min (t.val + 1) 16) (t.val - 3))
      ⊢ WP c (if h2 : k0_cond2 t = 1#1 then progB c hp hr hg ho v5 v8 v10 v11 v13 t h2 else .ret ⟨⟩) fun _ => inv2At P r g κ c (t.val + 1) := by
  have ht := t2_lt t
  unfold inv2At
  by_cases h : 3 ≤ t.val
  · have h2 : k0_cond2 t = 1#1 := (cond2_iff t).mpr h
    obtain ⟨k, hk⟩ : ∃ k : Fin 16, t.val = k.val + 3 := ⟨⟨t.val - 3, by omega⟩, by show _ = t.val - 3 + 3; omega⟩
    rw [dif_pos h2, show t.val - 3 = k.val by omega, show t.val + 1 - 3 = k.val + 1 by omega]
    exact inv2_B P r g κ c hp hr hg ho v5 v8 v10 v11 v13 t h2 k hk _ (by omega)
  · have h2 : ¬ k0_cond2 t = 1#1 := fun h2 => h ((cond2_iff t).mp h2)
    rw [dif_neg h2, show t.val - 3 = t.val + 1 - 3 by omega]
    unfold WP; rw [wp_ret]
    iintro H
    imodintro
    iexact H

theorem inv2_step (v2 v5 v8 v9 v10 v11 v13 : BitVec 32) (t : Fin k0_t2_loop.trips) (u : Unit) :
    inv2At P r g κ c t.val
      ⊢ WP c (k0_t2_body pM hp rM hr gM hg oM ho cc0_scratch0 cc0_scratch1 cc0_scratch2 cc0_scratch3 c v2 v5 v8 v9 v10 v11 v13 t u)
          fun _ => inv2At P r g κ c (t.val + 1) := by
  rw [trip_eq]
  by_cases h : t.val < 16
  · have h1 : k0_cond1 t = 1#1 := (cond1_iff t).mpr h
    obtain ⟨k, hk⟩ : ∃ k : Fin 16, t.val = k.val := ⟨⟨t.val, h⟩, rfl⟩
    have hl := inv2_last P r g κ c hp hr hg ho v5 v8 v10 v11 v13 t
    rw [dif_pos h1]
    rw [show min (t.val + 1) 16 = k.val + 1 by omega] at hl
    have ha := inv2_A P r g κ c hp hr hg ho v2 v5 v8 v9 v10 v11 t h1 k hk (t.val - 3) (by omega)
      (if h2 : k0_cond2 t = 1#1 then progB c hp hr hg ho v5 v8 v10 v11 v13 t h2 else .ret ⟨⟩) (Q := fun _ => inv2At P r g κ c (t.val + 1))
    unfold inv2At at ha hl ⊢
    rw [show min t.val 16 = k.val by omega]
    iintro ⟨#HI, #HL, H⟩
    iapply ha $$ [H]
    · isplitl []; · iexact HI
      isplitl []; · iexact HL
      iexact H
    iintro H
    iapply hl
    isplitl []; · iexact HI
    isplitl []; · iexact HL
    iexact H
  · have h1 : ¬ k0_cond1 t = 1#1 := fun h1 => h ((cond1_iff t).mp h1)
    have hl := inv2_last P r g κ c hp hr hg ho v5 v8 v10 v11 v13 t
    rw [dif_neg h1]
    rw [show min (t.val + 1) 16 = min t.val 16 by omega] at hl
    exact hl

/-- The whole second loop. -/
theorem loop2 (v2 v5 v8 v9 v10 v11 v13 : BitVec 32) {Q : Unit → sProp (MT nD τ sig Unit (Elt F) ℕ UU ℕ)} :
    iprop(invT P κ ∗ levAts L lv ∗ bigSep Finset.univ (preA (F := F) c) ∗ bigSep Finset.univ (fun k : Fin 16 => due (F := F) c (3, k))
        ∗ rPt c r ∗ gPt c g ∗ oweW c (xO c 0))
      ⊢ iprop(((bigSep Finset.univ (postA P c) ∗ bigSep Finset.univ (postB P r g c) ∗ rPt c r ∗ gPt c g ∗ oweW c 0) -∗ Q ⟨⟩)
        -∗ WP c (Scf.Loop.for k0_t2_loop k0_t2_ok ⟨⟩
          (k0_t2_body pM hp rM hr gM hg oM ho cc0_scratch0 cc0_scratch1 cc0_scratch2 cc0_scratch3 c v2 v5 v8 v9 v10 v11 v13)) Q) := by
  have h := Scf.wp_for frame (wpE (defs₀ (F := F)) 𝒱₀ (c : Thread nD τ) none) Set.univ k0_t2_loop.lb k0_t2_loop.ub k0_t2_loop.st k0_t2_ok ⟨⟩
    (k0_t2_body pM hp rM hr gM hg oM ho cc0_scratch0 cc0_scratch1 cc0_scratch2 cc0_scratch3 c v2 v5 v8 v9 v10 v11 v13)
    (fun n _ => inv2At P r g κ c n) (fun t u => inv2_step P r g κ c hp hr hg ho v2 v5 v8 v9 v10 v11 v13 t u) (Q := Q)
  iintro ⟨#HI, #HL, Ha, Hb, Hr, Hg, HO⟩
  iintro HK
  iapply h
  isplitl [Ha Hb Hr Hg HO]
  · unfold inv2At
    isplitl []; · iexact HI
    isplitl []; · iexact HL
    rw [show inv2 P r g c (min 0 16) (0 - 3) = inv2 P r g c 0 0 from rfl]
    unfold inv2
    rw [ge_zero, lt_zero, mid_self, bigSep_empty, bigSep_empty, bigSep_empty]
    isplitl [Ha]; · iexact Ha
    isplitl []; · iempintro
    isplitl []; · iempintro
    isplitl [Hb]; · iexact Hb
    isplitl []; · iempintro
    isplitl [Hr]; · iexact Hr
    isplitl [Hg]; · iexact Hg
    iexact HO
  iintro %_ H
  rw [show Scf.trips k0_t2_loop.lb k0_t2_loop.ub k0_t2_loop.st = 19 from t2_trips]
  unfold inv2At
  icases H with ⟨-, -, H⟩
  ihave H := (Entails.of_eq (show inv2 P r g c (min 19 16) (19 - 3) = inv2 P r g c 16 16 from rfl)) $$ H
  unfold inv2
  rw [ge_end, lt_end, mid_self, xO_end]
  icases H with ⟨-, Ha, -, -, Hb, Hr, Hg, HO⟩
  iapply HK
  isplitl [Ha]; · iexact Ha
  isplitl [Hb]; · iexact Hb
  isplitl [Hr]; · iexact Hr
  isplitl [Hg]; · iexact Hg
  iexact HO

end Cert.Fused
-- ==== Proof.Body.lean ====
/-
# The kernel body on one device

What a device starts from, and its run: a signal to either neighbour carrying the room for what they will write, the wait for
theirs, the two loops, and every cell closed.
-/
module

public import proofs.«01_k».proof.Proof.Loops

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Big F) (r : Big F) (g : S1x2048.Idx → F .f32) (κ : GSem nD τ sig → ℕ) (c : Dev nD)

/-! ## Regrouping -/

theorem by_halves (Φ : Fin 32 → sProp 𝕄) : bigSep Finset.univ Φ
    = iprop((bigSep Finset.univ fun k : Fin 16 => Φ (own c k)) ∗ bigSep Finset.univ fun k : Fin 16 => Φ (oth c k)) := by
  rw [bigSep_univ_equiv (Equiv.ofBijective (halves c) (halves_bij c)) Φ, bigSep_univ_sum]; rfl

theorem by_kind (Φ : Fin 4 × Fin 16 → sProp 𝕄) : bigSep Finset.univ Φ
    = iprop((bigSep Finset.univ fun k : Fin 16 => Φ (0, k)) ∗ (bigSep Finset.univ fun k : Fin 16 => Φ (1, k))
      ∗ (bigSep Finset.univ fun k : Fin 16 => Φ (2, k)) ∗ bigSep Finset.univ fun k : Fin 16 => Φ (3, k)) := by
  rw [bigSep_univ_prod, show (Finset.univ : Finset (Fin 4)) = {0, 1, 2, 3} from by decide, bigSep_insert (by decide),
    bigSep_insert (by decide), bigSep_insert (by decide), bigSep_singleton]
  rfl

/-- A whole buffer is its 32 chunks. -/
theorem p_chunks (f : Big F) : (pLoc c ↦{fullShare} f : sProp 𝕄)
    = iprop((bigSep Finset.univ fun k : Fin 16 => pPt c (own c k) f) ∗ bigSep Finset.univ fun k : Fin 16 => pPt c (oth c k) f) := by
  rw [← by_halves c fun b => pPt c b f]
  unfold pPt
  have h := pointsTo_biUnion (ℓ := pLoc c) (Val := Elt F) (Ix := Unit) (Name := ℕ) (U := UU) (Lvl := ℕ) (q := fullShare) (f := f) (Finset.univ : Finset (Fin 32)) (fun b => (chk b).set)
    fun a _ b _ h => chk_disjoint h
  rw [chk_cover] at h
  exact h
theorem o_chunks (f : Big F) : (oLoc c ↦{fullShare} f : sProp 𝕄)
    = iprop((bigSep Finset.univ fun k : Fin 16 => oPt c (own c k) f) ∗ bigSep Finset.univ fun k : Fin 16 => oPt c (oth c k) f) := by
  rw [← by_halves c fun b => oPt c b f]
  unfold oPt
  have h := pointsTo_biUnion (ℓ := oLoc c) (Val := Elt F) (Ix := Unit) (Name := ℕ) (U := UU) (Lvl := ℕ) (q := fullShare) (f := f) (Finset.univ : Finset (Fin 32)) (fun b => (chk b).set)
    fun a _ b _ h => chk_disjoint h
  rw [chk_cover] at h
  exact h

/-- What the body leaves in device `c`'s result: the own half from the sum formed on `c`, the other from the one formed across `x`. -/
def Fout : Big F := chunked fun b =>
  k0_pay3 (chunkOf b (if b.val / 16 = c.val / 8 then Ssum P c else Ssum P (xn c))) (chunkOf b r) g

theorem Fout_own (k : Fin 16) : (oPt c (own c k) (normed (Ssum P c) r g) : sProp 𝕄) = oPt c (own c k) (Fout P r g c) :=
  oPt_congr c _ (by
    unfold Fout normed
    rw [chunkOf_chunked, chunkOf_chunked, if_pos]
    have := k.isLt
    show (16 * (c.val / 8) + k.val) / 16 = _; omega)
theorem Fout_oth (k : Fin 16) : (oPt c (oth c k) (normed (Ssum P (xn c)) r g) : sProp 𝕄) = oPt c (oth c k) (Fout P r g c) :=
  oPt_congr c _ (by
    unfold Fout normed
    rw [chunkOf_chunked, chunkOf_chunked, if_neg]
    have := k.isLt
    have : c.val < 16 := c.isLt
    show ¬ (16 * (1 - c.val / 8) + k.val) / 16 = _; omega)

/-! ## What a device starts from -/

/-- Every barrier cell's invariant. -/
def invB : sProp 𝕄 := bigSep Finset.univ fun d : Dev nD => cellInv ER (sched P) (κ (barCell d)) (barCell d)

instance invB_persistent : BI.Persistent (invB P κ) := by unfold invB; infer_instance

/-- What every device may consult: the invariants, and that every barrier is at its first round. -/
def recs : sProp 𝕄 := iprop(invT P κ ∗ invB P κ ∗ bigSep Finset.univ fun d : Dev nD => reached ER (barCell d) 0)

instance recs_persistent : BI.Persistent (recs P κ) := by unfold recs; infer_instance

theorem invB_at : invB P κ ⊢ cellInv ER (sched P) (κ (barCell c)) (barCell c) :=
  BI.bigSep_elim (Φ := fun d : Dev nD => cellInv ER (sched P) (κ (barCell d)) (barCell d)) (Finset.mem_univ c)
theorem reachedB_at : (bigSep Finset.univ fun d : Dev nD => (reached ER (barCell d) 0 : sProp 𝕄)) ⊢ reached ER (barCell c) 0 :=
  BI.bigSep_elim (Φ := fun d : Dev nD => (reached ER (barCell d) 0 : sProp 𝕄)) (Finset.mem_univ c)

abbrev tok (n : Dev nD) (i : Fin 4) : sProp 𝕄 := bigSep Finset.univ fun k : Fin 16 => dutyTok ER (tCell n (i, k)) 0 false
abbrev crd (n : Dev nD) (i : Fin 4) : sProp 𝕄 := bigSep Finset.univ fun k : Fin 16 => cred (tallyAt (tCell n (i, k)) () N)
abbrev pos (n : Dev nD) (i : Fin 4) (R : ℕ) : sProp 𝕄 := bigSep Finset.univ fun k : Fin 16 => atPos ER (tCell n (i, k)) R ∅ 0
abbrev rch (n : Dev nD) (i : Fin 4) : sProp 𝕄 := bigSep Finset.univ fun k : Fin 16 => reached ER (tCell n (i, k)) 0

/-- The duties device `c` pays: a unit at either neighbour's barrier, the sends at its own cells, the receives at the neighbours'. -/
def toks : sProp 𝕄 :=
  iprop((dutyTok ER (barCell (yn c)) 0 false ∗ dutyTok ER (barCell (xn c)) 0 true) ∗ tok (F := F) c 0 ∗ tok (F := F) (yn c) 1 ∗ tok (F := F) c 2 ∗ tok (F := F) (xn c) 3)

/-- What others owe it. -/
def credits : sProp 𝕄 := iprop(cred (tallyAt (barCell c) () 2) ∗ crd (F := F) c 1 ∗ crd (F := F) c 3)

/-- The two rounds a neighbour learns of, and the positions and rounds of its own cells. -/
def cells : sProp 𝕄 :=
  bigSep Finset.univ fun i : Fin 4 × Fin 16 => iprop(atPos ER (tCell c i) 0 ∅ 0 ∗ reached ER (tCell c i) 0)

theorem cells_eq : (cells c : sProp 𝕄)
    = iprop((pos (F := F) c 0 0 ∗ pos (F := F) c 1 0 ∗ pos (F := F) c 2 0 ∗ pos (F := F) c 3 0)
      ∗ rch (F := F) c 0 ∗ rch (F := F) c 1 ∗ rch (F := F) c 2 ∗ rch (F := F) c 3) := by
  unfold cells
  rw [bigSep_sep', by_kind, by_kind]

/-! ## The pieces as the loops take them -/

theorem room_eq (n d : Dev nD) (i : Fin 4) : (room n d i : sProp 𝕄)
    = iprop((bigSep Finset.univ fun k : Fin 16 => oAny (F := F) n (own d k)) ∗ rch (F := F) n i) := by
  unfold room; rw [bigSep_sep']

theorem preY_eq : bigSep Finset.univ (preY P c)
    = iprop((bigSep Finset.univ fun k : Fin 16 => pPt c (own c k) (P c)) ∗ (bigSep Finset.univ fun k : Fin 16 => oAny (F := F) (yn c) (own c k))
      ∗ (tok (F := F) c 0 ∗ rch (F := F) c 0) ∗ tok (F := F) (yn c) 1 ∗ rch (F := F) (yn c) 1) := by
  show (bigSep Finset.univ fun k : Fin 16 => iprop(_ ∗ _ ∗ (_ ∗ _) ∗ (_ ∗ _))) = _
  rw [bigSep_sep', bigSep_sep', bigSep_sep', bigSep_sep', bigSep_sep']

theorem preA_eq : bigSep Finset.univ (preA (F := F) c)
    = iprop((crd (F := F) c 0 ∗ pos (F := F) c 0 0) ∗ (crd (F := F) c 1 ∗ pos (F := F) c 1 0) ∗ (tok (F := F) c 2 ∗ rch (F := F) c 2)
      ∗ (tok (F := F) (xn c) 3 ∗ rch (F := F) (xn c) 3) ∗ pos (F := F) c 2 0
      ∗ bigSep Finset.univ fun k : Fin 16 => oAny (F := F) (xn c) (own c k)) := by
  show (bigSep Finset.univ fun k : Fin 16 => iprop((_ ∗ _) ∗ (_ ∗ _) ∗ (_ ∗ _) ∗ (_ ∗ _) ∗ _ ∗ _)) = _
  rw [bigSep_sep', bigSep_sep', bigSep_sep', bigSep_sep', bigSep_sep', bigSep_sep', bigSep_sep', bigSep_sep', bigSep_sep']

theorem due_eq : (bigSep Finset.univ fun k : Fin 16 => due (F := F) c (3, k)) = iprop(crd (F := F) c 3 ∗ pos (F := F) c 3 0) := by
  unfold due; rw [bigSep_sep']

theorem postA_eq : bigSep Finset.univ (postA P c)
    = iprop((bigSep Finset.univ fun k : Fin 16 => pPt c (own c k) (P c)) ∗ pos (F := F) c 0 1 ∗ pos (F := F) c 1 1) := by
  show (bigSep Finset.univ fun k : Fin 16 => iprop(_ ∗ _ ∗ _)) = _
  rw [bigSep_sep', bigSep_sep']

theorem postB_eq : bigSep Finset.univ (postB P r g c)
    = iprop((bigSep Finset.univ fun k : Fin 16 => oPt c (own c k) (Fout P r g c)) ∗ (bigSep Finset.univ fun k : Fin 16 => oPt c (oth c k) (Fout P r g c))
      ∗ pos (F := F) c 2 1 ∗ pos (F := F) c 3 1) := by
  rw [bigSep_congr (Φ := fun k : Fin 16 => oPt c (own c k) (Fout P r g c)) fun k _ => (Fout_own P r g c k).symm,
    bigSep_congr (Φ := fun k : Fin 16 => oPt c (oth c k) (Fout P r g c)) fun k _ => (Fout_oth P r g c k).symm]
  show (bigSep Finset.univ fun k : Fin 16 => iprop(_ ∗ _ ∗ _ ∗ _)) = _
  rw [bigSep_sep', bigSep_sep', bigSep_sep']

theorem oAny_of (f : Big F) (h : Fin 16 → Fin 32) :
    (bigSep Finset.univ fun k : Fin 16 => (oPt c (h k) f : sProp 𝕄)) ⊢ bigSep Finset.univ fun k : Fin 16 => oAny (F := F) c (h k) :=
  bigSep_mono fun k _ => show (oPt c (h k) f : sProp 𝕄) ⊢ oAny c (h k) from by unfold oAny; iintro H; iexists f; iexact H

/-! ## Closing -/

theorem close_t : iprop(invT P κ ∗ pos (F := F) c 0 1 ∗ pos (F := F) c 1 1 ∗ pos (F := F) c 2 1 ∗ pos (F := F) c 3 1)
    ⊢ |={Set.univ}=> bigSep Finset.univ fun i : Fin 4 × Fin 16 => (semVal (tCell c i) 0 : sProp 𝕄) := by
  rw [← by_kind fun i => atPos ER (tCell c i) 1 ∅ 0]
  refine (bigSep_with_persistent (R := invT P κ) (Φ := fun i : Fin 4 × Fin 16 => atPos ER (tCell c i) 1 ∅ 0)
    (Ψ := fun i => iprop(|={Set.univ}=> semVal (tCell c i) 0)) fun i _ => ?_).trans (bigSep_fupd _ _)
  iintro ⟨HI, Ha⟩
  ihave HIc := (invT_at P κ c i) $$ HI
  iapply (Rounds.cell_close ER (sched P) (g := tCell c i) (Set.mem_univ (κ (tCell c i))) id (duties_later P (tCell c i)))
  isplitl [HIc]; · iexact HIc
  iexact Ha

/-! ## The body -/

variable (hp : pM.IsWhole) (hr : rM.IsWhole) (hg : gM.IsWhole) (ho : oM.IsWhole)

theorem body_run {Q : PUnit → sProp (MT nD τ sig Unit (Elt F) ℕ UU ℕ)} :
    iprop(recs P κ ∗ levAts L lv ∗ cells (F := F) c ∗ atPos ER (barCell c) 0 ∅ 0 ∗ toks (F := F) c ∗ credits (F := F) c
        ∗ (pLoc c ↦{fullShare} P c) ∗ rPt c r ∗ gPt c g ∗ (∃ f : Big F, oLoc c ↦{fullShare} f) ∗ oweW c (O₀ c))
      ⊢ iprop((((pLoc c ↦{fullShare} P c) ∗ rPt c r ∗ gPt c g ∗ (oLoc c ↦{fullShare} Fout P r g c)
          ∗ (bigSep Finset.univ fun i : Fin 4 × Fin 16 => semVal (tCell c i) 0) ∗ semVal (barCell c) 0 ∗ oweW c 0) -∗ Q ⟨⟩)
        -∗ WP c (cc0_body pM hp rM hr gM hg oM ho cc0_scratch0 cc0_scratch1 cc0_scratch2 cc0_scratch3) Q) := by
  simp only [cc0_body_eq_skeleton]
  unfold cc0_body_skel
  simp only [k0_part3_eq_skeleton]
  unfold k0_part3_skel
  simp only [semSignalWord, semWaitWord, Prog.lift, Prog.bind_op, Prog.bind_ret, Prog.pure_eq_ret, wp_deviceId]
  simp only [dev1_yn c, dev2_xn c]
  rw [cells_eq, p_chunks]
  unfold recs toks credits oweW
  iintro ⟨⟨#HIT, #HIB, #HRB⟩, #HL, ⟨⟨Ha0, Ha1, Ha2, Ha3⟩, #Hr0, #Hr1, #Hr2, #Hr3⟩, HaB, ⟨⟨HtY, HtX⟩, Ht0, Ht1, Ht2, Ht3⟩, ⟨HcB, Hc1, Hc3⟩,
    ⟨Hp, Hpo⟩, Hr, Hg, ⟨%f, Ho⟩, ⟨%W, HO⟩⟩
  iintro HK
  ihave Ho' := (Entails.of_eq (o_chunks c f)) $$ Ho
  icases Ho' with ⟨Hoo, Hot⟩
  ihave Hoo' := (oAny_of c f (own c)) $$ Hoo
  ihave Hot' := (oAny_of c f (oth c)) $$ Hot
  ihave #HIBy := (invB_at P κ (yn c)) $$ HIB
  ihave #HIBx := (invB_at P κ (xn c)) $$ HIB
  ihave #HIBc := (invB_at P κ c) $$ HIB
  ihave #HRy := (reachedB_at (F := F) (yn c)) $$ HRB
  ihave #HRx := (reachedB_at (F := F) (xn c)) $$ HRB
  -- the unit to the neighbour across `y`: room for the half it will write
  rw [show O₀ c = O₁ c + tallyAt (barCell (yn c)) () 1 from rfl]
  iapply (Rounds.wp_signal 𝒱₀ ER (sched P) (c : Thread nD τ) none (dst := (yn c : Thread nD τ)) (κ := κ (barCell (yn c)))
      (d := false) (by rw [duties_bar]; exact Finset.mem_univ _) ((amount_bar P (yn c) false).trans (by decide)) () (O₁ c) rfl)
    $$ [HO HtY Hoo']
  · isplitr; · iexact HIBy
    isplitl [HO]; · iexact HO
    isplitl [HtY]; · iexact HtY
    isplitl [Hoo']
    · rw [payload_bar]; unfold barPay
      rw [if_neg Bool.false_ne_true, yn_yn, room_eq]
      simp only [own_yn]
      isplitl [Hoo']; · iexact Hoo'
      iexact Hr1
    iexact HRy
  iintro HO
  -- the unit to the neighbour across `x`: room for the other half
  rw [show O₁ c = O₂ c 0 + tallyAt (barCell (xn c)) () 1 from rfl]
  iapply (Rounds.wp_signal 𝒱₀ ER (sched P) (c : Thread nD τ) none (dst := (xn c : Thread nD τ)) (κ := κ (barCell (xn c)))
      (d := true) (by rw [duties_bar]; exact Finset.mem_univ _) ((amount_bar P (xn c) true).trans (by decide)) () (O₂ c 0) rfl)
    $$ [HO HtX Hot']
  · isplitr; · iexact HIBx
    isplitl [HO]; · iexact HO
    isplitl [HtX]; · iexact HtX
    isplitl [Hot']
    · rw [payload_bar]; unfold barPay
      rw [if_pos rfl, xn_xn, room_eq]
      simp only [own_xn]
      isplitl [Hot']; · iexact Hot'
      iexact Hr3
    iexact HRx
  iintro HO
  -- both neighbours' units
  iapply (Rounds.wp_wait_rest_token (defs := defs₀ (F := F)) 𝒱₀ ER (sched P) (c : Thread nD τ) none (κ := κ (barCell c))
      (wpE_semWait_eq 𝒱₀ (c : Thread nD τ) none Set.univ) (Set.mem_univ _) () (O := O₂ c 0) (W := W) (R := 0) (m := 0) (T := ∅)
      (by rw [Nat.zero_add, expect_bar]; decide)) $$ [HcB HO HaB]
  · isplitr; · iexact HIBc
    isplitl [HcB]; · iexact HcB
    isplitl [HO]; · iexact HO
    isplitr; · iapply (mayWait_bar c); iexact HL
    iexact HaB
  iintro ⟨HO, HaB, -, Hpay⟩
  ihave Hrooms := (Entails.of_eq (rest_bar P c)) $$ Hpay
  rw [room_eq, room_eq]
  icases Hrooms with ⟨⟨Hy, #Hry⟩, Hx, #Hrx⟩
  rw [wp_bind, wp_bind]
  iapply (loop1 P κ c hp hr hg ho) $$ [Hp Hy Ht0 Ht1 HO]
  · isplitr; · iexact HIT
    isplitr [HO]
    · rw [preY_eq]
      isplitl [Hp]; · iexact Hp
      isplitl [Hy]; · iexact Hy
      isplitl [Ht0]
      · isplitl [Ht0]; · iexact Ht0
        iexact Hr0
      isplitl [Ht1]; · iexact Ht1
      iexact Hry
    unfold oweW; iexists _; iexact HO
  iintro ⟨Hc0, HO⟩
  rw [wp_ret]
  imodintro
  rw [wp_bind]
  iapply (loop2 P r g κ c hp hr hg ho) $$ [Hx Hc0 Hc1 Hc3 Ha0 Ha1 Ha2 Ha3 Ht2 Ht3 Hr Hg HO]
  · isplitr; · iexact HIT
    isplitr; · iexact HL
    isplitl [Hx Hc0 Hc1 Ha0 Ha1 Ha2 Ht2 Ht3]
    · rw [preA_eq]
      isplitl [Hc0 Ha0]; · isplitl [Hc0] <;> iassumption
      isplitl [Hc1 Ha1]; · isplitl [Hc1] <;> iassumption
      isplitl [Ht2]
      · isplitl [Ht2]; · iexact Ht2
        iexact Hr2
      isplitl [Ht3]
      · isplitl [Ht3]; · iexact Ht3
        iexact Hrx
      isplitl [Ha2] <;> iassumption
    isplitl [Hc3 Ha3]
    · rw [due_eq]; isplitl [Hc3] <;> iassumption
    isplitl [Hr]; · iexact Hr
    isplitl [Hg]; · iexact Hg
    iexact HO
  rw [postA_eq, postB_eq]
  iintro ⟨⟨Hp, Ha0, Ha1⟩, ⟨Hoo, Hot, Ha2, Ha3⟩, Hr, Hg, HO⟩
  imod (close_t P κ c) $$ [Ha0 Ha1 Ha2 Ha3] with Hz
  · isplitr; · iexact HIT
    isplitl [Ha0]; · iexact Ha0
    isplitl [Ha1]; · iexact Ha1
    isplitl [Ha2] <;> iassumption
  imod (Rounds.cell_close ER (sched P) (g := barCell c) (Set.mem_univ (κ (barCell c))) id (R := 0 + 1) (duties_later P (barCell c))) $$ [HaB] with HzB
  · isplitr; · iexact HIBc
    iexact HaB
  rw [wp_ret]
  imodintro
  iapply HK
  isplitl [Hp Hpo]; · isplitl [Hp] <;> iassumption
  isplitl [Hr]; · iexact Hr
  isplitl [Hg]; · iexact Hg
  isplitl [Hoo Hot]
  · rw [o_chunks]; isplitl [Hoo] <;> iassumption
  isplitl [Hz]; · iexact Hz
  isplitl [HzB]; · iexact HzB
  unfold oweW
  iexact HO

end Cert.Fused
-- ==== Proof.Region.lean ====
/-
# The region: its operands, its result, what enters and leaves it

Each window is a whole array. The region is entered with the device's two host operations done, its ghost state from launch
and what it owes; its cells are opened at entry and closed by the body.
-/
module

public import proofs.«01_k».proof.Proof.Body
public import proofs.«01_k».proof.Proof.Gen.KernelIdeal.Frame
public import Idealize.ShloMosaic.Lib.Pipeline.RegionTalk
public import Idealize.ShloMosaic.Lib.Pipeline.Value

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole windows -/

theorem whole_emb0 (t : Fin cfg0.N) (x) : ((cfg0.win 0).blk t).view.emb x = x := by
  obtain rfl := fin_N0 t
  funext a; refine Fin.ext ?_
  fin_cases a
  · show 0 * 2048 + 1 * (x 0).val = (x 0).val; omega
  · show 0 * 2048 + 1 * (x 1).val = (x 1).val; omega
theorem whole_emb1 (t : Fin cfg0.N) (x) : ((cfg0.win 1).blk t).view.emb x = x := by
  obtain rfl := fin_N0 t
  funext a; refine Fin.ext ?_
  fin_cases a
  · show 0 * 2048 + 1 * (x 0).val = (x 0).val; omega
  · show 0 * 2048 + 1 * (x 1).val = (x 1).val; omega
theorem whole_emb2 (t : Fin cfg0.N) (x) : ((cfg0.win 2).blk t).view.emb x = x := by
  obtain rfl := fin_N0 t
  funext a; refine Fin.ext ?_
  fin_cases a
  · show 0 * 1 + 1 * (x 0).val = (x 0).val; omega
  · show 0 * 2048 + 1 * (x 1).val = (x 1).val; omega
theorem whole_emb3 (t : Fin cfg0.N) (x) : ((cfg0.win 3).blk t).view.emb x = x := by
  obtain rfl := fin_N0 t
  funext a; refine Fin.ext ?_
  fin_cases a
  · show 0 * 2048 + 1 * (x 0).val = (x 0).val; omega
  · show 0 * 2048 + 1 * (x 1).val = (x 1).val; omega

/-! ## The contents -/

/-- At launch, and after the two host operations. -/
abbrev V₀ (c : Dev nD) : Valuation τ sig (Elt F) := fun b => m (c, b)
abbrev V₁ (c : Dev nD) : Valuation τ sig (Elt F) := StableHlo.after hostOps0 (V₀ m c)

/-- The operands on device `c`: its summand, the residual, the scale. -/
def Pm (c : Dev nD) : Big F := V₁ m c (Proc.devRef .tc main_v1)
def Rm (c : Dev nD) : Big F := V₁ m c (Proc.devRef .tc main_arg1)
def Gm (c : Dev nD) : S1x2048.Idx → F .f32 := V₁ m c (Proc.devRef .tc main_v2)
/-- The result. -/
def Om (c : Dev nD) : Big F := Fout (Pm m) (Rm m c) (Gm m c) c

/-- What a device's body starts from and ends with, its windows apart. -/
def Xk (c : Dev nD) : sProp 𝕄 :=
  iprop((∃ κ, recs (Pm m) κ) ∗ levAts L lv ∗ cells (F := F) c ∗ atPos ER (barCell c) 0 ∅ 0 ∗ toks (F := F) c ∗ credits (F := F) c)
def own0 (c : Dev nD) : sProp 𝕄 := bigSep Finset.univ fun i : Fin 4 × Fin 16 => semVal (tCell c i) 0
def Yk (c : Dev nD) : sProp 𝕄 := semVal (barCell c) 0

def dat (c : Dev nD) : Dat τ (Elt F) Unit ℕ UU ℕ cfg0 c where
  A w := V₁ m c (Proc.devRef .tc (Pipeline.arrRef spec0 w))
  after w _ := match w with
    | ⟨0, _⟩ => Pm m c
    | ⟨1, _⟩ => Rm m c
    | ⟨2, _⟩ => Gm m c
    | ⟨3, _⟩ => Om m c
  Φ t := if t.val = 0 then iprop(Xk m c ∗ ∃ r, prngReg c r) else iprop(own0 (F := F) c ∗ Yk (F := F) c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat m

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem before0 (c : Dev nD) (d) : (dat m c).before (0 : Fin 4) t0_0 d = Pm m c := by
  unfold Dat.before; rw [if_pos (by rfl)]
  funext x
  exact congrArg (Pm m c) (whole_emb0 t0_0 x)
theorem before1 (c : Dev nD) (d) : (dat m c).before (1 : Fin 4) t0_0 d = Rm m c := by
  unfold Dat.before; rw [if_pos (by rfl)]
  funext x
  exact congrArg (Rm m c) (whole_emb1 t0_0 x)
theorem before2 (c : Dev nD) (d) : (dat m c).before (2 : Fin 4) t0_0 d = Gm m c := by
  unfold Dat.before; rw [if_pos (by rfl)]
  funext x
  exact congrArg (Gm m c) (whole_emb2 t0_0 x)

/-- The result array at the end. -/
theorem arr_out (c : Dev nD) : (dat m c).arrAt (3 : Fin 4) cfg0.N = Om m c :=
  (dat m c).arrAt_eq_of_cover (3 : Fin 4) (Om m c)
    (fun t _ => by
      obtain rfl := fin_N0 t
      funext x
      exact (congrArg (Om m c) (whole_emb3 t0_0 x)).symm)
    fun i => ⟨t0_0, rfl, Finset.mem_map.mpr ⟨i, Finset.mem_univ _, whole_emb3 t0_0 i⟩⟩

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((dat m c).Φ t0_0.castSucc ∗ (dat m c).owesAt () t0_0.castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))

def bodyPost (c : Dev nD) : sProp 𝕄 :=
  iprop((dat m c).Φ t0_0.succ ∗ (dat m c).owesAt () t0_0.succ
    ∗ stg c cc0_stg0_0 (Pm m c) ∗ stg c cc0_stg1_0 (Rm m c) ∗ stg c cc0_stg2_0 (Gm m c) ∗ stg c cc0_stg3_0 (Om m c))

theorem owesAt_eq (c : Dev nD) (t : Fin (cfg0.N + 1)) (O : CellTallies nD τ sig Unit) (h0 : (dat m c).owed t = O) :
    ((dat m c).owesAt () t : sProp 𝕄) ⊣⊢ oweW (F := F) c O := by
  unfold Dat.owesAt Pipeline.owesWithin Dat.bound oweW
  rw [h0]
  constructor
  · iintro ⟨%W, -, HO⟩; iexists W; iexact HO
  · iintro ⟨%W, HO⟩; iexists W
    isplitr; · ipureintro; exact fun _ _ => Or.inl trivial
    iexact HO

theorem body (c : Dev nD) : BodyObligation (dat (F := F) m c) (defs₀ (F := F)) 𝒱₀ () Set.univ := fun t => by
  rw [fin_N0 t]
  rw [bigSep_W0, bigSep_W0]
  simp only [owns_whole_eq]
  show bodyPre m c ⊢ WP c
    (cc0_body pM (hstage0_0 0) rM (hstage0_1 0) gM (hstage0_2 0) oM (hstage0_3 0) cc0_scratch0 cc0_scratch1 cc0_scratch2 cc0_scratch3)
      (fun _ => bodyPost m c)
  unfold bodyPre
  simp only [before0, before1, before2]
  rw [show (dat m c).Φ t0_0.castSucc = iprop(Xk m c ∗ ∃ r, prngReg c r) from rfl]
  unfold Xk
  iintro ⟨⟨⟨⟨%κ, #HR⟩, #HL, Hcells, HaB, Htok, Hcr⟩, Hreg⟩, HO, ⟨%d0, %f0, %h0, Hp⟩, ⟨%d1, %f1, %h1, Hr⟩, ⟨%d2, %f2, %h2, Hg⟩, ⟨%d3, %f3, %h3, Ho⟩⟩
  subst h0 h1 h2
  ihave HO' := (owesAt_eq m c _ (O₀ c) (owed_first m c)).1 $$ HO
  iapply (body_run (Pm m) (Rm m c) (Gm m c) κ c (hstage0_0 0) (hstage0_1 0) (hstage0_2 0) (hstage0_3 0)) $$ [Hcells HaB Htok Hcr HO' Hp Hr Hg Ho]
  · isplitr; · iexact HR
    isplitr; · iexact HL
    isplitl [Hcells]; · iexact Hcells
    isplitl [HaB]; · iexact HaB
    isplitl [Htok]; · iexact Htok
    isplitl [Hcr]; · iexact Hcr
    isplitl [Hp]; · iexact Hp
    isplitl [Hr]; · (unfold rPt; iexact Hr)
    isplitl [Hg]; · (unfold gPt; iexact Hg)
    isplitl [Ho]; · iexists f3; iexact Ho
    iexact HO'
  unfold rPt gPt
  iintro ⟨Hp, Hr, Hg, Ho, Hz, HzB, HO⟩
  unfold bodyPost
  rw [show (dat m c).Φ t0_0.succ = iprop(own0 (F := F) c ∗ Yk (F := F) c ∗ ∃ r, prngReg c r) from rfl]
  isplitl [Hz HzB Hreg]
  · unfold own0 Yk
    isplitl [Hz]; · iexact Hz
    isplitl [HzB]; · iexact HzB
    iexact Hreg
  isplitl [HO]
  · iapply (owesAt_eq m c _ 0 (owed_last m c)).2; iexact HO
  isplitl [Hp]; · iexists _; isplitr; · (ipureintro; rfl)
                  iexact Hp
  isplitl [Hr]; · iexists _; isplitr; · (ipureintro; rfl)
                  iexact Hr
  isplitl [Hg]; · iexists _; isplitr; · (ipureintro; rfl)
                  iexact Hg
  iexists _; isplitr; · (ipureintro; rfl)
  iexact Ho

/-! ## The segment -/

/-- After the region: the result array written. -/
def V₂ (c : Dev nD) : Valuation τ sig (Elt F) := Function.update (V₁ m c) (Proc.devRef .tc main_v3) (Om m c)

theorem V₂_out (c : Dev nD) : V₂ m c (Proc.devRef .tc main_v3) = Om m c := by unfold V₂; exact Function.update_self ..
theorem V₂_ne (c : Dev nD) {b : DevRef τ sig} (h : b ≠ Proc.devRef .tc main_v3) : V₂ m c b = V₁ m c b := by
  unfold V₂; exact Function.update_of_ne h ..

theorem ownSems_eq (c : Dev nD) : (Pipeline.ownSems0 osem c : sProp 𝕄) = own0 (F := F) c := rfl

/-- What a device brings to the region. -/
def linear (c : Dev nD) : sProp 𝕄 :=
  iprop(atPos ER (barCell c) 0 ∅ 0 ∗ (bigSep Finset.univ fun i : Fin 4 × Fin 16 => openTok ER (tCell c i)) ∗ toks (F := F) c)
def Tk (c : Dev nD) : sProp 𝕄 := iprop((∃ κ, recs (Pm m) κ ∗ linear (F := F) c) ∗ credits (F := F) c)

theorem open_t (P : Dev nD → Big F) (κ : GSem nD τ sig → ℕ) (c : Dev nD) :
    iprop(invT P κ ∗ (bigSep Finset.univ fun i : Fin 4 × Fin 16 => openTok ER (tCell c i)) ∗ own0 (F := F) c)
      ⊢ |={Set.univ}=> cells (F := F) c := by
  unfold own0 cells
  rw [← bigSep_sep']
  refine (bigSep_with_persistent (R := invT P κ) (Φ := fun i : Fin 4 × Fin 16 => iprop(openTok ER (tCell c i) ∗ semVal (tCell c i) 0))
    (Ψ := fun i => iprop(|={Set.univ}=> (atPos ER (tCell c i) 0 ∅ 0 ∗ reached ER (tCell c i) 0))) fun i _ => ?_).trans (bigSep_fupd Finset.univ
      fun i : Fin 4 × Fin 16 => iprop(atPos ER (tCell c i) 0 ∅ 0 ∗ reached ER (tCell c i) 0))
  iintro ⟨HI, Ho, Hv⟩
  ihave HIc := (invT_at P κ c i) $$ HI
  iapply (Rounds.cell_open ER (sched P) (g := tCell c i) (Set.mem_univ (κ (tCell c i))))
  isplitl [HIc]; · iexact HIc
  isplitl [Ho] <;> iassumption

theorem hopen (c : Dev nD) : iprop(Tk m c ∗ Pipeline.ownSems0 osem c ∗ levAts L lv) ⊢ (|={Set.univ}=> Xk m c : sProp 𝕄) := by
  rw [ownSems_eq]
  unfold Tk Xk linear
  iintro ⟨⟨⟨%κ, #HR, HaB, Hop, Htok⟩, Hcr⟩, Hv, #HL⟩
  ihave #HI := (show recs (Pm m) κ ⊢ invT (Pm m) κ from by unfold recs; iintro ⟨HI, -⟩; iexact HI) $$ HR
  imod (open_t (Pm m) κ c) $$ [Hop Hv] with Hc
  · isplitr; · iexact HI
    isplitl [Hop] <;> iassumption
  imodintro
  isplitr; · iexists κ; iexact HR
  isplitr; · iexact HL
  isplitl [Hc]; · iexact Hc
  isplitl [HaB]; · iexact HaB
  isplitl [Htok] <;> iassumption

theorem ownSemFacts : Pipeline.OwnSemFacts spec0 osem := by decide +kernel

theorem kitP : Pipeline.PLaunchFacts (nD := nD) (τ := τ) (pcfgs (F := F)) 0 := launch0.toP

theorem share_eq (c : Dev nD) (w : Fin 4) : (dat m c).share w = fullShare := by unfold Dat.share; split <;> rfl

theorem cutD (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · have := O₀_pos h
    exact ⟨by unfold L; rw [if_pos this.1]; exact Finset.mem_singleton_self _, this.2⟩
  · exact absurd h (Nat.lt_irrefl 0)

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (pdats m 0 c).Φ 0 = iprop(Xk m c ∗ ∃ r, prngReg c r) from rfl]
  iintro ⟨-, Hp, -, HX⟩
  isplitl [HX] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk (F := F) c) := by
  rw [show (pdats m 0 c).Φ (Fin.last _) = iprop(own0 (F := F) c ∗ Yk (F := F) c ∗ ∃ r, prngReg c r) from rfl, ownSems_eq,
    show (Pipeline.scopedRest (Pipeline.pin (pcfgs (F := F)) adm 0).spec c : sProp 𝕄) = BI.emp from scopedRest0_eq c,
    show (StableHlo.held (c.tc : Thread nD τ) ∅ (V₂ m c) : sProp 𝕄) = BI.emp from bigSep_empty]
  iintro ⟨Hz, HY, Hp⟩
  isplitr; · iempintro
  isplitl [Hp]; · iexact Hp
  isplitr; · iempintro
  isplitl [Hz] <;> iassumption

/-- The buffers beside the windows' arrays. -/
abbrev bufs : Finset (DevRef τ sig) := Pipeline.ucRefs τ sig
abbrev arrs : Finset (DevRef τ sig) := Pipeline.arrRefs (τ := τ) (pcfgs (F := F) 0).spec
abbrev rest : Finset (DevRef τ sig) := bufs \ arrs (F := F)

theorem out_mem : Proc.devRef .tc main_v3 ∈ (arrs (F := F) : Finset (DevRef τ sig)) := by
  unfold arrs Pipeline.arrRefs
  exact Finset.mem_map_of_mem _ (Finset.mem_image.mpr ⟨(3 : Fin 4), Finset.mem_univ _, rfl⟩)

theorem hW' (c : Dev nD) (w : Fin 4) : (dat m c).arrAt w cfg0.N = V₂ m c (Proc.devRef .tc (Pipeline.arrRef spec0 w)) := by
  fin_cases w
  · exact ((dat m c).arrAt_in (0 : Fin 4) rfl _).trans (V₂_ne m c (b := Proc.devRef .tc main_v1) (StableHlo.devRef_ne_of_ne (by decide))).symm
  · exact ((dat m c).arrAt_in (1 : Fin 4) rfl _).trans (V₂_ne m c (b := Proc.devRef .tc main_arg1) (StableHlo.devRef_ne_of_ne (by decide))).symm
  · exact ((dat m c).arrAt_in (2 : Fin 4) rfl _).trans (V₂_ne m c (b := Proc.devRef .tc main_v2) (StableHlo.devRef_ne_of_ne (by decide))).symm
  · exact (arr_out m c).trans (V₂_out m c).symm

theorem stage_lt (w : Fin 4) (s : Fin (cfg0.win w).nbuf) : ((cfg0.win w).sem s).val < 4 := by
  fin_cases w <;> (revert s; decide +kernel)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ (rest (F := F)) (Finset.empty_subset _) kitP rfl (fun c => (body m c).loose)
    (fun _ => 0) O₀ (fun c => (owed_first m c).trans (zero_add _).symm) (owed_last m) (fun _ => rfl) (share_eq m)
    (V₁ m) (V₂ m) (fun c b hb => V₂_ne m c fun h => (Finset.mem_sdiff.mp (Finset.mem_sdiff.mp hb).1).2 (h ▸ out_mem (F := F)))
    (Tk m) (Yk (F := F)) (Xk m) (Yk (F := F)) (hopen m) (hin m) (hout m)
    (fun c => by iintro H; imodintro; iexact H)
    (fun _ => 0)
    ⟨fun c w s => by rw [L_tc]; exact Finset.mem_singleton_self _,
      fun c w s => by
        exact le_of_eq (lv_stage c _ (stage_lt w s) ()),
      fun c t g i h => cutD m c t g i h⟩
    (fun _ => iprop(emp))
    (fun _ _ => rfl) (hW' m)

end Cert.Fused
-- ==== Proof.Launch.lean ====
/-
# The run

At launch every cell's invariant is allocated, and the positions, the rights to open, the duty tokens and the launch credit
are dealt to the devices; each token goes to the neighbour that pays the duty. The run then follows from the host
operations and the region.
-/
module

public import proofs.«01_k».proof.Proof.Region

@[expose] public section

set_option backward.proofsInPublic true

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The segments joined -/

/-- What rides beside the buffers before the region. -/
def Rd (c : Dev nD) : sProp 𝕄 := iprop(Tk m c ∗ (∃ W, owes (c : Thread nD τ) (O₀ c) W) ∗ ∃ r, prngReg c r)

def host : Pipeline.HostSeg (Ix := Unit) (Name := ℕ) (U := UU) (Lvl := ℕ) (pcfgs (F := F)) defs₀ 𝒱₀ L lv :=
  Pipeline.HostSeg.ofOps _ _ _ _ _ bufs hostOps0
    (fun op h => Pipeline.sub_ucRefs op ((List.forall_iff_forall_mem.mp hostOps0_sub) op h))
    (List.forall_iff_forall_mem.mp hostOps0_fresh) (V₀ m) (Rd m)

theorem arrs_sub : arrs (F := F) ⊆ bufs := Pipeline.arrRefs_sub_ucRefs _ (show ∀ w : Fin 4, (Pipeline.arrRef spec0 w).isScoped = false by decide)

theorem reg_pre (c : Dev nD) : iprop(StableHlo.held (c : Thread nD τ) bufs (V₁ m c) ∗ Rd m c) ⊢ (reg m).pre c := by
  show _ ⊢ iprop(StableHlo.held (c.tc : Thread nD τ) (arrs (F := F)) (V₁ m c) ∗ (∃ r, prngReg c r)
    ∗ (StableHlo.held (c.tc : Thread nD τ) (rest (F := F)) (V₁ m c) ∗ emp) ∗ Tk m c ∗ ∃ Wd, owes (c : Thread nD τ) (0 + O₀ c) Wd)
  rw [StableHlo.held_sub_split _ (arrs_sub (F := F)), zero_add]
  unfold Rd
  iintro ⟨⟨Ha, Hr⟩, HT, HO, Hp⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop((StableHlo.held (c : Thread nD τ) bufs (V₂ m c) ∗ semVal (barCell c) 0)
      ∗ ∃ W, owes (c : Thread nD τ) (0 : CellTallies nD τ sig Unit) W) := by
  show iprop(StableHlo.held (c.tc : Thread nD τ) (arrs (F := F)) (V₂ m c) ∗ (∃ r, prngReg c r)
    ∗ (StableHlo.held (c.tc : Thread nD τ) (rest (F := F)) (V₂ m c) ∗ emp) ∗ Yk (F := F) c ∗ ∃ Wd, owes (c : Thread nD τ) (0 : CellTallies nD τ sig Unit) Wd) ⊢ _
  rw [StableHlo.held_sub_split _ (arrs_sub (F := F))]
  unfold Yk
  iintro ⟨Ha, -, ⟨Hr, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (host m), .region (reg m)]

/-! ## What launch mints -/

def barEmb : Dev nD ↪ GSem nD τ sig := ⟨barCell, fun _ _ h => barCell_inj h⟩
def tEmb : Dev nD × (Fin 4 × Fin 16) ↪ GSem nD τ sig :=
  ⟨fun p => tCell p.1 p.2, fun _ _ h => Prod.ext (tCell_inj h).1 (tCell_inj h).2⟩
abbrev barCells : Finset (GSem nD τ sig) := Finset.univ.map barEmb
abbrev tCells : Finset (GSem nD τ sig) := Finset.univ.map tEmb

/-- The duties of a device's cells: two at its barrier, one at each of the others. -/
def dutyOf (p : Dev nD × (Bool ⊕ Fin 4 × Fin 16)) : GSem nD τ sig × ℕ × Bool :=
  match p.2 with
  | .inl d => (barCell p.1, 0, d)
  | .inr i => (tCell p.1 i, 0, false)

theorem dutyOf_inj : Function.Injective dutyOf := by
  rintro ⟨c, a⟩ ⟨c', a'⟩ h
  have hg := congrArg Prod.fst h
  have hd := congrArg (fun x : GSem nD τ sig × ℕ × Bool => x.2.2) h
  rcases a with d | i <;> rcases a' with d' | i'
  · have h1 : c = c' := barCell_inj hg
    have h2 : d = d' := hd
    rw [h1, h2]
  · exact absurd hg.symm (tCell_ne_bar _ _ _)
  · exact absurd hg (tCell_ne_bar _ _ _)
  · have h1 : c = c' := (tCell_inj hg).1
    have h2 : i = i' := (tCell_inj hg).2
    rw [h1, h2]

def allToks : Finset (GSem nD τ sig × ℕ × Bool) := Finset.univ.map ⟨dutyOf, dutyOf_inj⟩

theorem cells_disjoint : Disjoint barCells tCells := by
  rw [Finset.disjoint_left]
  rintro g h₁ h₂
  obtain ⟨c, -, rfl⟩ := Finset.mem_map.mp h₁
  obtain ⟨p, -, h⟩ := Finset.mem_map.mp h₂
  exact tCell_ne_bar _ _ _ h

def u₀ : UU :=
  (initOf (Pipeline.cells (Pipeline.pin (pcfgs (F := F)) adm) cellOf_inj) (Pipeline.launchToks (Pipeline.pin (pcfgs (F := F)) adm) cellOf_inj),
    launchOf barCells tCells allToks)

/-- The minted element stays whole, with one device, until the step that deals it. -/
def minted (c : Dev nD) : sProp 𝕄 := if c = 0 then BI.own (ER (launchOf barCells tCells allToks)) else iprop(emp)

theorem minted_all : bigSep Finset.univ (minted (F := F)) = BI.own (ER (launchOf barCells tCells allToks)) := by
  have hz : bigSep (Finset.univ.erase (0 : Dev nD)) (minted (F := F)) = BI.emp := by
    rw [bigSep_congr (Ψ := fun _ => (BI.emp : sProp 𝕄)) fun c hc => by
      unfold minted; rw [if_neg (Finset.ne_of_mem_erase hc)]; rfl]
    exact BI.bigSep_emp_const _
  rw [bigSep_univ_at _ (0 : Dev nD), hz]
  unfold minted
  rw [if_pos rfl]
  exact BI.equiv_iff.mp sep_emp

/-! ## Dealing -/

/-- The tokens of the duties at device `c`'s cells. -/
def toksAt (c : Dev nD) : sProp 𝕄 :=
  iprop((dutyTok ER (barCell c) 0 false ∗ dutyTok ER (barCell c) 0 true)
    ∗ tok (F := F) c 0 ∗ tok (F := F) c 1 ∗ tok (F := F) c 2 ∗ tok (F := F) c 3)

theorem toks_eq : bigSep allToks (fun x => (dutyTok ER x.1 x.2.1 x.2.2 : sProp 𝕄)) = bigSep Finset.univ (toksAt (F := F)) := by
  unfold allToks
  rw [bigSep_map, bigSep_univ_prod]
  refine bigSep_congr fun c _ => ?_
  rw [bigSep_univ_sum, by_kind (F := F), bigSep_univ_eq_bigSepL [false, true] (by decide) (by decide)]
  rfl

theorem toks_around : bigSep Finset.univ (toksAt (F := F)) ⊢ bigSep Finset.univ (toks (F := F)) := by
  unfold toksAt toks
  simp only [bigSep_sep']
  rw [bigSep_univ_equiv ynE (fun c : Dev nD => (dutyTok ER (barCell c) 0 false : sProp 𝕄)),
    bigSep_univ_equiv xnE (fun c : Dev nD => (dutyTok ER (barCell c) 0 true : sProp 𝕄)),
    bigSep_univ_equiv ynE (fun c : Dev nD => (tok (F := F) c 1 : sProp 𝕄)),
    bigSep_univ_equiv xnE (fun c : Dev nD => (tok (F := F) c 3 : sProp 𝕄))]
  exact BI.Entails.refl _

/-! ### The launch credit -/

theorem sum_tally (n c : Dev nD) (j i : Fin 4) (k : Fin 16) :
    (∑ k' : Fin 16, tallyAt (Ix := Unit) (tCell n (j, k')) () N) (tCell c (i, k)) () = if c = n ∧ i = j then N else 0 := by
  rw [Finset.sum_apply, Finsupp.finset_sum_apply]
  simp only [tallyAt_apply, and_true]
  by_cases h : c = n ∧ i = j
  · rw [if_pos h, Finset.sum_eq_single k]
    · rw [if_pos (by rw [h.1, h.2])]
    · intro k' _ hk
      exact if_neg fun e => hk (congrArg Prod.snd (tCell_inj e).2).symm
    · exact fun hk => absurd (Finset.mem_univ k) hk
  · rw [if_neg h]
    exact Finset.sum_eq_zero fun k' _ => if_neg fun e => h ⟨(tCell_inj e).1, congrArg Prod.fst (tCell_inj e).2⟩

theorem sum_tally_bar (n c : Dev nD) (j : Fin 4) :
    (∑ k' : Fin 16, tallyAt (Ix := Unit) (tCell n (j, k')) () N) (barCell c) () = 0 := by
  rw [Finset.sum_apply, Finsupp.finset_sum_apply]
  exact Finset.sum_eq_zero fun k' _ => by rw [tallyAt_ne_cell (fun e => tCell_ne_bar _ _ _ e.symm)]; rfl

theorem owed_t (d c : Dev nD) (i : Fin 4) (k : Fin 16) :
    O₀ d (tCell c (i, k)) () = (if c = xn d ∧ i = 3 then N else 0) + if c = yn d ∧ i = 1 then N else 0 := by
  unfold O₀ O₁ O₂ xO yO
  rw [ge_zero]
  simp only [Pi.add_apply, Finsupp.add_apply, sum_tally]
  rw [tallyAt_ne_cell (tCell_ne_bar _ _ _), tallyAt_ne_cell (tCell_ne_bar _ _ _)]
  rfl

theorem owed_bar (d c : Dev nD) : O₀ d (barCell c) () = (if c = xn d then 1 else 0) + if c = yn d then 1 else 0 := by
  unfold O₀ O₁ O₂ xO yO
  rw [ge_zero]
  simp only [Pi.add_apply, Finsupp.add_apply, sum_tally_bar, tallyAt_apply, and_true, zero_add]
  have e (n : Dev nD) : (if barCell c = barCell n then 1 else 0) = if c = n then 1 else 0 :=
    if_congr ⟨barCell_inj, fun h => by rw [h]⟩ rfl rfl
  rw [e, e]

theorem count_xn (c : Dev nD) (a : ℕ) : (∑ d : Dev nD, if c = xn d then a else 0) = a := by
  rw [Finset.sum_eq_single (xn c) (fun d _ hd => if_neg fun h => hd (by rw [h, xn_xn])) fun h => absurd (Finset.mem_univ _) h, xn_xn, if_pos rfl]
theorem count_yn (c : Dev nD) (a : ℕ) : (∑ d : Dev nD, if c = yn d then a else 0) = a := by
  rw [Finset.sum_eq_single (yn c) (fun d _ hd => if_neg fun h => hd (by rw [h, yn_yn])) fun h => absurd (Finset.mem_univ _) h, yn_yn, if_pos rfl]

theorem total_bar (c : Dev nD) : launchCredit (Pipeline.owing O₀) 0 (barCell c) () = 2 := by
  rw [Pipeline.launchCredit_owing, Finset.sum_congr rfl fun d _ => owed_bar d c, Finset.sum_add_distrib, count_xn, count_yn]
theorem total_1 (c : Dev nD) (k : Fin 16) : launchCredit (Pipeline.owing O₀) 0 (tCell c (1, k)) () = N := by
  rw [Pipeline.launchCredit_owing, Finset.sum_congr rfl fun d _ => owed_t d c 1 k]
  simp only [show ¬ ((1 : Fin 4) = 3) from by decide, and_false, if_false, zero_add, and_true]
  exact count_yn c N
theorem total_3 (c : Dev nD) (k : Fin 16) : launchCredit (Pipeline.owing O₀) 0 (tCell c (3, k)) () = N := by
  rw [Pipeline.launchCredit_owing, Finset.sum_congr rfl fun d _ => owed_t d c 3 k]
  simp only [show ¬ ((3 : Fin 4) = 1) from by decide, and_false, if_false, add_zero, and_true]
  exact count_xn c N

theorem tally_total {g : GSem nD τ sig} {n : ℕ} (h : launchCredit (Pipeline.owing O₀) 0 g () = n) :
    tallyOn g (launchCredit (Pipeline.owing O₀) 0 g) = (tallyAt g () n : CellTallies nD τ sig Unit) := by
  unfold tallyAt; refine congrArg _ (Finsupp.ext fun u => ?_); cases u
  rw [h, Finsupp.single_eq_same]

def osemE : Fin 4 × Fin 16 ↪ SemLoc sig := ⟨osem, fun _ _ h => tsem_inj (SemLoc.dma.inj h)⟩

/-- The launch credit at one of the device's own cells. -/
def credT (c : Dev nD) (i : Fin 4 × Fin 16) : sProp 𝕄 := cred (tallyOn (tCell c i) (launchCredit (Pipeline.owing O₀) 0 (tCell c i)))

theorem credT_1 (c : Dev nD) (k : Fin 16) : (credT c (1, k) : sProp 𝕄) = cred (tallyAt (tCell c (1, k)) () N) := by
  unfold credT; rw [tally_total (total_1 c k)]
theorem credT_3 (c : Dev nD) (k : Fin 16) : (credT c (3, k) : sProp 𝕄) = cred (tallyAt (tCell c (3, k)) () N) := by
  unfold credT; rw [tally_total (total_3 c k)]

theorem credT_all (c : Dev nD) : bigSep Finset.univ (credT (F := F) c) ⊢ iprop(crd (F := F) c 1 ∗ crd (F := F) c 3) := by
  rw [by_kind (F := F), bigSep_congr fun k _ => credT_1 (F := F) c k, bigSep_congr fun k _ => credT_3 (F := F) c k]
  iintro ⟨-, H1, -, H3⟩
  isplitl [H1] <;> iassumption

theorem creds (c : Dev nD) : (Pipeline.launchCred O₀ c : sProp 𝕄) ⊢ credits (F := F) c := by
  unfold Pipeline.launchCred credits
  rw [bigSep_univ_at _ (SemLoc.reg barS), tally_total (total_bar c)]
  refine sep_mono_right ?_
  refine (bigSep_subset (t := Finset.univ.map osemE) fun s hs => ?_).trans ?_
  · obtain ⟨i, -, rfl⟩ := Finset.mem_map.mp hs
    exact Finset.mem_erase.mpr ⟨(fun h => nomatch h), Finset.mem_univ _⟩
  rw [bigSep_map]
  exact credT_all c

/-! ### The first state -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

abbrev T₀ (c : Dev nD) : sProp 𝕄 := iprop(StableHlo.held (c : Thread nD τ) bufs (V₀ m c) ∗ Rd m c)
abbrev Tₙ (c : Dev nD) : sProp 𝕄 := iprop(StableHlo.held (c : Thread nD τ) bufs (V₂ m c) ∗ semVal (barCell c) 0)

/-- What a device has at launch beside the minted state. -/
def given (c : Dev nD) : sProp 𝕄 :=
  iprop(StableHlo.held (c : Thread nD τ) bufs (V₀ m c) ∗ credits (F := F) c ∗ owes (c : Thread nD τ) (O₀ c) ∅ ∗ ∃ r, prngReg c r)

theorem T₀_intro (κ : GSem nD τ sig → ℕ) (c : Dev nD) : iprop(recs (Pm m) κ ∗ (linear (F := F) c ∗ given m c)) ⊢ T₀ m c := by
  unfold given T₀ Rd Tk
  iintro ⟨#HR, Hl, Hh, Hc, HO, Hp⟩
  isplitl [Hh]; · iexact Hh
  isplitl [Hl Hc]
  · isplitl [Hl]
    · iexists κ
      isplitr; · iexact HR
      iexact Hl
    iexact Hc
  isplitl [HO]
  · iexists ∅; iexact HO
  iexact Hp

theorem split_launch (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ minted c)
    ⊢ (iprop(given m c ∗ (semVal (barCell c) 0 ∗ minted c)) : sProp 𝕄) := by
  rw [show unscopedBufs c (fun b => m ((c : Thread nD τ).loc b)) = StableHlo.held (c : Thread nD τ) bufs (V₀ m c) from
    Pipeline.unscopedBufs_held c (V₀ m c), unscopedSems_eq]
  unfold given
  iintro ⟨Hh, Hs, HO, Hc, Hp, HG⟩
  ihave Hc' := (creds (F := F) c) $$ Hc
  isplitl [Hh HO Hc' Hp]
  · isplitl [Hh]; · iexact Hh
    isplitl [Hc']; · iexact Hc'
    isplitl [HO]; · iexact HO
    iexists (ρ c); iexact Hp
  isplitl [Hs] <;> iassumption

theorem over_bar (Φ : GSem nD τ sig → sProp 𝕄) : bigSep barCells Φ = bigSep Finset.univ fun c : Dev nD => Φ (barCell c) := by
  rw [bigSep_map]; rfl
theorem over_t (Φ : GSem nD τ sig → sProp 𝕄) : bigSep tCells Φ = bigSep Finset.univ fun p : Dev nD × (Fin 4 × Fin 16) => Φ (tCell p.1 p.2) := by
  rw [bigSep_map]; rfl

theorem all_cells (Φ : GSem nD τ sig → sProp 𝕄) : bigSep (barCells ∪ tCells) Φ
    = iprop((bigSep Finset.univ fun c : Dev nD => Φ (barCell c)) ∗ bigSep Finset.univ fun p : Dev nD × (Fin 4 × Fin 16) => Φ (tCell p.1 p.2)) := by
  rw [bigSep_union cells_disjoint, over_bar, over_t]; rfl
theorem open_t_all : bigSep tCells (fun g => (openTok ER g : sProp 𝕄))
    = bigSep Finset.univ fun c : Dev nD => bigSep Finset.univ fun i : Fin 4 × Fin 16 => openTok ER (tCell c i) := by
  rw [over_t, bigSep_univ_prod]

theorem linear_all : bigSep Finset.univ (linear (F := F)) = iprop((bigSep Finset.univ fun c : Dev nD => atPos ER (barCell c) 0 ∅ 0)
    ∗ (bigSep Finset.univ fun c : Dev nD => bigSep Finset.univ fun i : Fin 4 × Fin 16 => openTok ER (tCell c i))
    ∗ bigSep Finset.univ (toks (F := F))) := by
  unfold linear; rw [bigSep_sep', bigSep_sep']

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ minted c)) ∗ levAts L lv)
      ⊢ (|={Set.univ}=> bigSep Finset.univ (T₀ m) : sProp 𝕄) := by
  refine (sep_mono_left (bigSep_mono fun c _ => split_launch m ρ c)).trans ?_
  rw [bigSep_sep', bigSep_sep', minted_all, ← over_bar (F := F) fun g => semVal g 0]
  iintro ⟨⟨HB, Hv, Hu⟩, -⟩
  imod (Rounds.fund_launch ER (sched (Pm m)) cells_disjoint (fun g _ h => h) allToks) $$ [Hv Hu] with ⟨%κ, -, Hinv, Hr, Hat, Hop, Htok⟩
  · isplitl [Hv] <;> iassumption
  imodintro
  ihave Hinv' := (Entails.of_eq (all_cells (fun g => (cellInv ER (sched (Pm m)) (κ g) g : sProp 𝕄)))) $$ Hinv
  icases Hinv' with ⟨HiB, HiT⟩
  ihave Hr' := (Entails.of_eq (over_bar (fun g => (reached ER g 0 : sProp 𝕄)))) $$ Hr
  ihave Hat' := (Entails.of_eq (over_bar (fun g => (atPos ER g 0 ∅ 0 : sProp 𝕄)))) $$ Hat
  ihave Hop' := (Entails.of_eq (open_t_all (F := F))) $$ Hop
  ihave Htok' := (Entails.of_eq (toks_eq (F := F))) $$ Htok
  ihave Htok'' := (toks_around (F := F)) $$ Htok'
  iapply (bigSep_with_persistent (R := recs (Pm m) κ) (Φ := fun c => iprop(linear c ∗ given m c)) fun c _ => T₀_intro m κ c)
  isplitl [HiB HiT Hr']
  · unfold recs invT invB
    isplitl [HiT]; · iexact HiT
    isplitl [HiB]; · iexact HiB
    iexact Hr'
  iapply (Entails.of_eq (bigSep_sep' Finset.univ (linear (F := F)) (given m)).symm)
  isplitr [HB]
  · iapply (Entails.of_eq (linear_all (F := F)).symm)
    isplitl [Hat']; · iexact Hat'
    isplitl [Hop']; · iexact Hop'
    iexact Htok''
  iexact HB

/-! ## The run -/

theorem unscoped_eq : ∀ sm : SemLoc sig, sm.isScoped .tc = false → sm = .reg barS := by decide +kernel

theorem V₂_arg0 (c : Dev nD) : V₂ m c (Proc.devRef .tc main_arg0) = m ((c : Thread nD τ).loc main_arg0) :=
  (V₂_ne m c (StableHlo.devRef_ne_of_ne (by decide))).trans (V_main_arg0 m c)
theorem V₂_arg1 (c : Dev nD) : V₂ m c (Proc.devRef .tc main_arg1) = m ((c : Thread nD τ).loc main_arg1) :=
  (V₂_ne m c (StableHlo.devRef_ne_of_ne (by decide))).trans (V_main_arg1 m c)
theorem V₂_arg2 (c : Dev nD) : V₂ m c (Proc.devRef .tc main_arg2) = m ((c : Thread nD τ).loc main_arg2) :=
  (V₂_ne m c (StableHlo.devRef_ne_of_ne (by decide))).trans (V_main_arg2 m c)

theorem uc {b : Ref sig .tc} (h : b.isScoped = false) : (Proc.devRef .tc b : DevRef τ sig) ∈ bufs :=
  Finset.mem_filter.mpr ⟨StableHlo.devRef_mem_tcRefs _, fun h' => Bool.false_ne_true (h.symm.trans h')⟩

theorem read_end (c : Dev nD) (s' : Phys nD τ sig (Elt F)) :
    iprop(Tₙ m c ∗ SI s') ⊢ (|={Set.univ}=> iprop(⌜(∀ b ∈ bufs, s'.mem.mem (c, b) = V₂ m c b) ∧ s'.mem.sem (barCell c) = 0⌝ ∗ SI s') : sProp 𝕄) := by
  unfold Tₙ
  iintro ⟨⟨Hh, Hb⟩, HSI⟩
  icombine HSI Hb gives %hb
  ihave %hh := (SI_pointsTo_bufs_agree (st := s') (c := c) (qs := fun _ => fullShare) (F := V₂ m c) bufs) $$ [HSI Hh]
  · isplitl [HSI]; · iexact HSI
    unfold StableHlo.held; iexact Hh
  imodintro
  isplitr
  · ipureintro; exact ⟨hh, by simpa using hb⟩
  iexact HSI

set_option backward.isDefEq.respectTransparency.types false in
/-- From any memory with its counters at zero the program ends on every device, its arguments as they were, its result
    `Om`, and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v3) = Om m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c, segs])
    (by simp only [segs, Pipeline.Seg.pipes_host, Pipeline.Seg.pipes_region, Pipeline.Seg.pipes_nil]; decide)
    (O₀ := O₀) (hL := L_of_ne) (G := minted) (u₀ := u₀)
    (hu₀ := by
      unfold u₀
      iintro Hu
      ihave H := (ownU_pair _ _) $$ Hu
      icases H with ⟨HP, HX⟩
      imodintro
      isplitl [HP]; · iexact HP
      rw [minted_all]; iexact HX)
    (T₀ := T₀ m) (Tₙ := Tₙ m)
    (hch := ⟨fun _ => .rfl, fun c => reg_pre m c, fun c => reg_post m c⟩)
    (hinit := init m ρ)
    (QY := fun c s => (∀ b ∈ bufs, s.mem (c, b) = V₂ m c b) ∧ s.sem (barCell c) = 0)
    (hfin := fun c s' => read_end m c s')
    (hQ := fun s h hs => ⟨fun c => by
        have hb := (h c).1
        exact ⟨⟨(hb _ (uc (b := main_arg0) rfl)).trans (V₂_arg0 m c), (hb _ (uc (b := main_arg1) rfl)).trans (V₂_arg1 m c),
          (hb _ (uc (b := main_arg2) rfl)).trans (V₂_arg2 m c)⟩, (hb _ (uc (b := main_v3) rfl)).trans (V₂_out m c)⟩,
      sem_eq_zero hs fun c sm hsm => by
        obtain rfl := unscoped_eq sm hsm
        exact (h c).2⟩)

end Cert.Fused
-- ==== Proof.Value.lean ====
/-
# The result is the reference's

Read at one element, both are the same expression of one row of summands, residuals and scales. The two summands of an
element are added in one order or the other, by device.
-/
module

public import proofs.«01_k».proof.Proof.Launch
public import proofs.«01_k».proof.Proof.Gen.ReferenceIdeal.Run
public import Idealize.ShloMosaic.Lib.Pointwise

@[expose] public section

set_option backward.proofsInPublic true

noncomputable section

namespace Cert.FusedValue

open Idealize.ShloMosaic Idealize.ShloMosaic.TcCoe

/-- One element of the normalised row `y`, times its scale. -/
def elem (y : Fin 2048 → EReal) (g : EReal) (l : Fin 2048) : EReal :=
  Ideal.div (y l) (Ideal.sqrt (Ideal.div (∑ k : Fin 2048, y k * y k) (Ideal.ofBits .f32 0x45000000#32) + Ideal.ofBits .f32 0x358637BD#32)) * g

section Kernel
open Cert.KernelIdeal Cert.KernelIdeal.Gen

theorem pay3_apply (s r : Vec Ideal S64x2048 .f32) (g : Vec Ideal S1x2048 .f32) (a : Fin 64) (l : Fin 2048) :
    k0_pay3 s r g (ix2 a l) = elem (fun k => s (ix2 a k) + r (ix2 a k)) (g (ix2 0 l)) l := by
  pointwise [k0_pay3, elem]

theorem pay2_apply (s r : Vec Ideal S64x2048 .f32) (x : S64x2048.Idx) : k0_pay2 s r x = (s x + r x : EReal) := by
  pointwise [k0_pay2]

theorem cast3_apply (v : FVec Ideal S1x2048x2048 .f32) (j l : Fin 2048) :
    shapeCast S2048x2048 v shapeCasts_S1x2048x2048_S2048x2048 (ix2 j l) = (v (ix3 0 j l) : EReal) := by pointwise
theorem cast1_apply (v : FVec Ideal S2048 .f32) (l : Fin 2048) :
    shapeCast S1x2048 v shapeCasts_S2048_S1x2048 (ix2 0 l) = (v (ix1 l) : EReal) := by pointwise

end Kernel

section Reference
open Cert.ReferenceIdeal Cert.ReferenceIdeal.Gen

/-- The sum the reference normalises, and its result, of its arguments. -/
def refY (A : FVec Ideal S2x2048x2048 .f32) (R : FVec Ideal S2048x2048 .f32) : FVec Ideal S2048x2048 .f32 :=
  addf (Host.reduceAdd A (constant S_ .f32 0x00000000#32) reducesTo_S2x2048x2048_S2048x2048_d0 h_S_) R
def refOut (A : FVec Ideal S2x2048x2048 .f32) (R : FVec Ideal S2048x2048 .f32) (G : FVec Ideal S2048 .f32) : FVec Ideal S2048x2048 .f32 :=
  mulf (Host.divf (refY A R) (broadcastInDim S2048x2048 ![0, 1] bcast_S2048x1_S2048x2048_0_1 (Host.sqrt (addf (Host.divf (broadcastInDim S2048x1 ![0] bcast_S2048_S2048x1_0 (Host.reduceAdd (mulf (refY A R) (refY A R)) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 G))

theorem refY_apply (A : FVec Ideal S2x2048x2048 .f32) (R : FVec Ideal S2048x2048 .f32) (j : Fin 2048) (l : Fin 2048) :
    refY A R (ix2 j l) = (A (ix3 0 j l) + A (ix3 1 j l) + R (ix2 j l) : EReal) := by
  pointwise [refY]
  exact congrArg (· + R (ix2 j l)) (Fin.sum_univ_two fun x : Fin 2 => A (ix3 x j l))

theorem refOut_apply (A : FVec Ideal S2x2048x2048 .f32) (R : FVec Ideal S2048x2048 .f32) (G : FVec Ideal S2048 .f32) (j : Fin 2048) (l : Fin 2048) :
    refOut A R G (ix2 j l) = elem (fun k => refY A R (ix2 j k)) (G (ix1 l)) l := by
  pointwise [refOut, elem]

end Reference

section Operands
open Cert.KernelIdeal Cert.KernelIdeal.Gen
open Cert.Fused (Pm Rm Gm Om V₀ V₁ yn xn Ssum Fout chunkOf chunked chk chunkNo chunkIx chunkOf_apply emb_chunk emb0 emb1)

variable (m : (ℓ : Loc nD τ sig) → Buf (Elt Ideal) ℓ) (c : Dev nD)

theorem Pm_eq : (Pm m c : S2048x2048.Idx → EReal)
    = shapeCast S2048x2048 (m ((c.tc : Thread nD τ).loc main_arg0) : S1x2048x2048.Idx → EReal) shapeCasts_S1x2048x2048_S2048x2048 := by
  unfold Pm V₁ V₀; after_results; rfl
theorem Gm_eq : (Gm m c : S1x2048.Idx → EReal)
    = shapeCast S1x2048 (m ((c.tc : Thread nD τ).loc main_arg2) : S2048.Idx → EReal) shapeCasts_S2048_S1x2048 := by
  unfold Gm V₁ V₀; after_results; rfl
theorem Rm_eq : Rm m c = m ((c.tc : Thread nD τ).loc main_arg1) := V_main_arg1 m c

theorem Pm_apply (j l : Fin 2048) : Pm m c (ix2 j l) = (m ((c.tc : Thread nD τ).loc main_arg0) : S1x2048x2048.Idx → EReal) (ix3 0 j l) := by
  rw [Pm_eq]; exact cast3_apply _ j l
theorem Gm_apply (l : Fin 2048) : Gm m c (ix2 0 l) = (m ((c.tc : Thread nD τ).loc main_arg2) : S2048.Idx → EReal) (ix1 l) := by
  rw [Gm_eq]; exact cast1_apply _ l

variable (A : (⟨3, ![2, 2048, 2048]⟩ : Shape).Idx → EReal)

/-- Device `c`'s summand is the one of the two its coordinate on the second mesh axis names. -/
theorem Pm_of_block (hA : m ((c.tc : Thread nD τ).loc main_arg0)
      = Layout.blockN ⟨3, ![1, 2048, 2048]⟩ ⟨3, ![2, 2048, 2048]⟩ (Layout.meshBlock [2, 2, 4] ![[1], [], []] c) A) (j l : Fin 2048) :
    Pm m c (ix2 j l) = A (ix3 ⟨c.val / 4 % 2, Nat.mod_lt _ (by decide)⟩ j l) := by
  rw [Pm_apply, hA, Layout.blockN_apply]
  refine congrArg A (funext fun b => Fin.ext ?_)
  fin_cases b
  · show (c.val / 4 % 2 * 1 + 0) * 1 + 0 = c.val / 4 % 2; omega
  · show 0 * 2048 + j.val = j.val; omega
  · show 0 * 2048 + l.val = l.val; omega

/-- The sum of the two summands, whichever device forms it. -/
theorem Ssum_of_block (hA : ∀ c : Dev nD, m ((c.tc : Thread nD τ).loc main_arg0)
      = Layout.blockN ⟨3, ![1, 2048, 2048]⟩ ⟨3, ![2, 2048, 2048]⟩ (Layout.meshBlock [2, 2, 4] ![[1], [], []] c) A) (j l : Fin 2048) :
    Ssum (Pm m) c (ix2 j l) = (A (ix3 0 j l) + A (ix3 1 j l) : EReal) := by
  show k0_pay2 (chunkOf (chunkNo (ix2 j l)) (Pm m (yn c))) (chunkOf (chunkNo (ix2 j l)) (Pm m c)) (chunkIx (ix2 j l)) = _
  rw [pay2_apply, chunkOf_apply, chunkOf_apply, Pm_of_block m _ A (hA _), Pm_of_block m _ A (hA _)]
  have hc : c.val < 16 := c.isLt
  have hy : (yn c).val = 8 * (c.val / 8) + 4 * (1 - c.val / 4 % 2) + c.val % 4 := rfl
  have key : ∀ (u v : Fin 2), u.val + v.val = 1 → (A (ix3 u j l) + A (ix3 v j l) : EReal) = A (ix3 0 j l) + A (ix3 1 j l) := by
    intro u v h
    fin_cases u <;> fin_cases v
    · exact absurd h (by decide)
    · rfl
    · exact add_comm _ _
    · exact absurd h (by decide)
  refine key _ _ ?_
  show (yn c).val / 4 % 2 + c.val / 4 % 2 = 1
  omega

/-- Every device's result is the reference's. -/
theorem Om_eq (R : S2048x2048.Idx → EReal) (G : S2048.Idx → EReal)
    (hA : ∀ c : Dev nD, m ((c.tc : Thread nD τ).loc main_arg0)
      = Layout.blockN ⟨3, ![1, 2048, 2048]⟩ ⟨3, ![2, 2048, 2048]⟩ (Layout.meshBlock [2, 2, 4] ![[1], [], []] c) A)
    (hR : m ((c.tc : Thread nD τ).loc main_arg1) = R) (hG : m ((c.tc : Thread nD τ).loc main_arg2) = G) :
    Om m c = refOut A R G := by
  funext i
  obtain ⟨j, l, rfl⟩ : ∃ (j l : Fin 2048), i = ix2 j l := ⟨i 0, i 1, eq_ix2 i⟩
  show k0_pay3 (chunkOf (chunkNo (ix2 j l)) (if (chunkNo (ix2 j l)).val / 16 = c.val / 8 then Ssum (Pm m) c else Ssum (Pm m) (xn c)))
    (chunkOf (chunkNo (ix2 j l)) (Rm m c)) (Gm m c) (chunkIx (ix2 j l)) = _
  have hS : ∀ b : Fin 32, ∀ j l : Fin 2048, (if b.val / 16 = c.val / 8 then Ssum (Pm m) c else Ssum (Pm m) (xn c)) (ix2 j l)
      = (A (ix3 0 j l) + A (ix3 1 j l) : EReal) := fun b j l => by
    split <;> exact Ssum_of_block m _ A hA j l
  generalize hb : chunkNo (ix2 j l) = b
  generalize hx : chunkIx (ix2 j l) = x
  obtain ⟨a, l', rfl⟩ : ∃ (a : Fin 64) (l' : Fin 2048), x = ix2 a l' := ⟨x 0, x 1, eq_ix2 x⟩
  have he : (chk b).emb (ix2 a l') = ix2 j l := by rw [← hb, ← hx]; exact emb_chunk _
  have hl : l' = l := Fin.ext ((emb1 b (ix2 a l')).symm.trans (by rw [he]; rfl))
  have hrow : ∀ k : Fin 2048, (chk b).emb (ix2 a k) = ix2 j k := fun k => by
    rw [eq_ix2 ((chk b).emb (ix2 a k))]
    refine congrArg₂ ix2 (Fin.ext ?_) (Fin.ext (emb1 b _))
    have h0 := emb0 b (ix2 a l')
    rw [he] at h0
    exact (emb0 b (ix2 a k)).trans h0.symm
  rw [hl, pay3_apply, refOut_apply, Gm_apply, hG]
  refine congrArg (fun y => elem y (G (ix1 l)) l) (funext fun k => ?_)
  rw [refY_apply]
  refine congrArg₂ (fun u v : EReal => u + v) ?_ ?_
  · show (if b.val / 16 = c.val / 8 then Ssum (Pm m) c else Ssum (Pm m) (xn c)) ((chk b).emb (ix2 a k)) = _
    rw [hrow]; exact hS b j k
  · show Rm m c ((chk b).emb (ix2 a k)) = _
    rw [hrow, Rm_eq, hR]

end Operands

end Cert.FusedValue
-- ==== Proof.lean ====
/-
# The claims

The kernel's three frames come from one run stated over any float values (proof/Proof/Launch.lean); the value claim sets
that run's result beside the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The two programs are one text, so a run of the one is a run of the other. -/
theorem same_run (m : (ℓ : Loc Cert.Kernel.nD Cert.Kernel.τ Cert.Kernel.sig) → Buf (Elt Bits) ℓ) (g : Dev Cert.Kernel.nD → PrngReg) :
    (θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0))
    = (θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)) := by
  sl_kernel_rfl

theorem frame_kernel : Cert.quiescent_Kernel (hKernel := Cert.Kernel.Gen.facts) := fun m g _ =>
  (same_run m g).mp ((θ_run Cert.KernelIdeal.defs _ _).mono (fun _ h => (⟨fun c => (h.1 c).1, h.2⟩ : _ ∧ _)) (Cert.Fused.run_main (F := Bits) m g))

theorem frame_kernelIdeal : Cert.quiescent_KernelIdeal (hKernelIdeal := Cert.KernelIdeal.Gen.facts) := fun m g _ =>
  (θ_run Cert.KernelIdeal.defs _ _).mono (fun _ h => ⟨fun c => (h.1 c).1, h.2⟩) (Cert.Fused.run_main (F := Ideal) m g)

/-- The reference has no semaphore. -/
theorem noSem (s : SemLoc Cert.ReferenceIdeal.sig) : False := by
  match s with
  | .reg q => exact q.elim0
  | .dma q => exact q.elim0

theorem frame_reference : Cert.quiescent_ReferenceIdeal (hReferenceIdeal := Cert.ReferenceIdeal.Gen.facts) := fun m g _ =>
  (θ_run Cert.ReferenceIdeal.defs _ _).mono (fun _ h => ⟨fun c => (h c).2, funext fun s => (noSem s.2).elim⟩)
    (Cert.ReferenceIdeal.Value.run (F := Ideal) m g)

theorem algebraic : Cert.algebraic_KernelIdeal_ReferenceIdeal (hKernelIdeal := Cert.KernelIdeal.Gen.facts)
    (hReferenceIdeal := Cert.ReferenceIdeal.Gen.facts) := fun m g m' g' _ hm =>
  ⟨Cert.FusedValue.refOut _ _ _,
    (θ_run Cert.KernelIdeal.defs _ _).mono (fun _ h c =>
      ⟨(h.1 c).2.trans (Cert.FusedValue.Om_eq m c _ _ _ (fun d => (hm d).1) (hm c).2.1 (hm c).2.2), (h.1 c).1⟩)
      (Cert.Fused.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
